-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S1024x384 : Shape := ⟨2, ![1024, 384]⟩
abbrev S1024x256 : Shape := ⟨2, ![1024, 256]⟩
abbrev S512x384 : Shape := ⟨2, ![512, 384]⟩
abbrev S256x384 : Shape := ⟨2, ![256, 384]⟩
abbrev S128x384 : Shape := ⟨2, ![128, 384]⟩
abbrev S512x256 : Shape := ⟨2, ![512, 256]⟩
abbrev S256x256 : Shape := ⟨2, ![256, 256]⟩
abbrev S128x256 : Shape := ⟨2, ![128, 256]⟩
abbrev S3x7 : Shape := ⟨2, ![3, 7]⟩
abbrev S_ : Shape := ⟨0, ![]⟩
abbrev S128x128 : Shape := ⟨2, ![128, 128]⟩
abbrev S512x128 : Shape := ⟨2, ![512, 128]⟩
abbrev S1x1 : Shape := ⟨2, ![1, 1]⟩

abbrev nBuf : Space → Nat
  | .hbm => 3
  | .vmem => 19
  | .smem => 0
  | _ => 0

abbrev bufTy : (tb : Table) → Fin (tcTables nBuf tb) → BufTy
  | .hbm, ⟨0, _⟩ => ⟨S1024x128, .bf16⟩
  | .hbm, ⟨1, _⟩ => ⟨S128x1024, .bf16⟩
  | .hbm, ⟨2, _⟩ => ⟨S128x1024, .f32⟩
  | .local _ .vmem, ⟨0, _⟩ => ⟨S1024x128, .bf16⟩
  | .local _ .vmem, ⟨1, _⟩ => ⟨S128x1024, .bf16⟩
  | .local _ .vmem, ⟨2, _⟩ => ⟨S128x1024, .f32⟩
  | .local _ .vmem, ⟨3, _⟩ => ⟨S1024x384, .bf16⟩
  | .local _ .vmem, ⟨4, _⟩ => ⟨S1024x384, .bf16⟩
  | .local _ .vmem, ⟨5, _⟩ => ⟨S1024x256, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S128x1024, .bf16⟩
  | .local _ .vmem, ⟨10, _⟩ => ⟨S512x384, .bf16⟩
  | .local _ .vmem, ⟨11, _⟩ => ⟨S256x384, .bf16⟩
  | .local _ .vmem, ⟨12, _⟩ => ⟨S128x384, .bf16⟩
  | .local _ .vmem, ⟨13, _⟩ => ⟨S512x384, .bf16⟩
  | .local _ .vmem, ⟨14, _⟩ => ⟨S256x384, .bf16⟩
  | .local _ .vmem, ⟨15, _⟩ => ⟨S128x384, .bf16⟩
  | .local _ .vmem, ⟨16, _⟩ => ⟨S512x256, .bf16⟩
  | .local _ .vmem, ⟨17, _⟩ => ⟨S256x256, .bf16⟩
  | .local _ .vmem, ⟨18, _⟩ => ⟨S128x256, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v36 : BitVec 32 := Scalar.xori v2 c4_i32_17
  let c1_i32_20 : BitVec 32 := 1#32
  let v44 : BitVec 32 := Scalar.muli v36 c1_i32_20
  let v45 : BitVec 32 := Scalar.addi c0_i32_21 v44
  v45.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v37 : BitVec 32 := Scalar.subi v2 v12
  let c3_i32 : BitVec 32 := 3#32
  let v38 : BitVec 32 := Scalar.subi c3_i32 v12
  let v39 : BitVec 32 := Scalar.addi v37 v38
  let c1_i32_23 : BitVec 32 := 1#32
  let v46 : BitVec 32 := Scalar.muli v39 c1_i32_23
  let v47 : BitVec 32 := Scalar.addi c0_i32_24 v46
  v47.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v40 : BitVec 32 := Scalar.subi v2 v12
  let c1_i32_18 : BitVec 32 := 1#32
  let v41 : BitVec 32 := Scalar.xori v12 c1_i32_18
  let v42 : BitVec 32 := Scalar.addi v40 v41
  let c1_i32_26 : BitVec 32 := 1#32
  let v48 : BitVec 32 := Scalar.muli v42 c1_i32_26
  let v49 : BitVec 32 := Scalar.addi c0_i32_27 v48
  v49.toNat
def k0_off1 (d0 : Dev nD) : Fin 2 → Nat :=
  let c1_i32_122 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v178 : BitVec 32 := Scalar.subi c1_i32_122 v29
  let c512_i32_123 : BitVec 32 := 512#32
  let v179 : BitVec 32 := Scalar.muli v178 c512_i32_123
  let v214 : Index := Scalar.indexCast v179
  let c0_144 : Index := 0#32
  ![v214.toNat, 0]
def k0_off2 (d0 : Dev nD) : Fin 2 → Nat :=
  let c1_i32_122 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v178 : BitVec 32 := Scalar.subi c1_i32_122 v29
  let c512_i32_123 : BitVec 32 := 512#32
  let v179 : BitVec 32 := Scalar.muli v178 c512_i32_123
  let v219 : Index := Scalar.indexCast v179
  let c0_147 : Index := 0#32
  ![v219.toNat, 0]
def k0_off3 (d0 : Dev nD) : Fin 2 → Nat :=
  let c1_i32_124 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v180 : BitVec 32 := Scalar.subi c1_i32_124 v31
  let c512_i32_125 : BitVec 32 := 512#32
  let v181 : BitVec 32 := Scalar.muli v180 c512_i32_125
  let v223 : Index := Scalar.indexCast v181
  let c0_148 : Index := 0#32
  ![v223.toNat, 0]
def k0_off4 (d0 : Dev nD) : Fin 2 → Nat :=
  let c1_i32_124 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v180 : BitVec 32 := Scalar.subi c1_i32_124 v31
  let c512_i32_125 : BitVec 32 := 512#32
  let v181 : BitVec 32 := Scalar.muli v180 c512_i32_125
  let v228 : Index := Scalar.indexCast v181
  let c0_152 : Index := 0#32
  ![v228.toNat, 0]
def k0_off5 (d0 : Dev nD) : Fin 2 → Nat :=
  let c1_i32_126 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v182 : BitVec 32 := Scalar.subi c1_i32_126 v35
  let c512_i32_127 : BitVec 32 := 512#32
  let v183 : BitVec 32 := Scalar.muli v182 c512_i32_127
  let v232 : Index := Scalar.indexCast v183
  let c0_153 : Index := 0#32
  ![v232.toNat, 0]
def k0_off6 (d0 : Dev nD) : Fin 2 → Nat :=
  let c1_i32_126 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v182 : BitVec 32 := Scalar.subi c1_i32_126 v35
  let c512_i32_127 : BitVec 32 := 512#32
  let v183 : BitVec 32 := Scalar.muli v182 c512_i32_127
  let v237 : Index := Scalar.indexCast v183
  let c0_157 : Index := 0#32
  ![v237.toNat, 0]
def k0_off7 (d0 : Dev nD) : Fin 2 → Nat :=
  let c1_i32_159 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v241 : BitVec 32 := Scalar.subi c1_i32_159 v31
  let c256_i32_160 : BitVec 32 := 256#32
  let v242 : BitVec 32 := Scalar.muli v241 c256_i32_160
  let c1_i32_161 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v243 : BitVec 32 := Scalar.subi c1_i32_161 v35
  let c128_i32_162 : BitVec 32 := 128#32
  let v244 : BitVec 32 := Scalar.muli v243 c128_i32_162
  let v245 : BitVec 32 := Scalar.addi v242 v244
  let c0_i32_177 : BitVec 32 := 0#32
  ![v245.toNat, 0]
def k0_off8 (d0 : Dev nD) : Fin 2 → Nat :=
  let c1_i32_122 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v178 : BitVec 32 := Scalar.subi c1_i32_122 v29
  let c512_i32_123 : BitVec 32 := 512#32
  let v179 : BitVec 32 := Scalar.muli v178 c512_i32_123
  let c1_i32_159 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v241 : BitVec 32 := Scalar.subi c1_i32_159 v31
  let c256_i32_160 : BitVec 32 := 256#32
  let v242 : BitVec 32 := Scalar.muli v241 c256_i32_160
  let c1_i32_161 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v243 : BitVec 32 := Scalar.subi c1_i32_161 v35
  let c128_i32_162 : BitVec 32 := 128#32
  let v244 : BitVec 32 := Scalar.muli v243 c128_i32_162
  let v245 : BitVec 32 := Scalar.addi v242 v244
  let v257 : BitVec 32 := Scalar.addi v179 v245
  let c0_i32_178 : BitVec 32 := 0#32
  ![v257.toNat, 0]
def k0_dev4 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v36 : BitVec 32 := Scalar.xori v2 c4_i32_17
  let c1_i32_175 : BitVec 32 := 1#32
  let v258 : BitVec 32 := Scalar.muli v36 c1_i32_175
  let v259 : BitVec 32 := Scalar.addi c0_i32_176 v258
  v259.toNat
def k0_off9 (d0 : Dev nD) : Fin 2 → Nat :=
  let c1_i32_163 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v246 : BitVec 32 := Scalar.subi c1_i32_163 v31
  let c256_i32_164 : BitVec 32 := 256#32
  let v247 : BitVec 32 := Scalar.muli v246 c256_i32_164
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_165 : BitVec 32 := 128#32
  let v248 : BitVec 32 := Scalar.muli v35 c128_i32_165
  let v249 : BitVec 32 := Scalar.addi v247 v248
  let c0_i32_185 : BitVec 32 := 0#32
  ![v249.toNat, 0]
def k0_off10 (d0 : Dev nD) : Fin 2 → Nat :=
  let c1_i32_122 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v178 : BitVec 32 := Scalar.subi c1_i32_122 v29
  let c512_i32_123 : BitVec 32 := 512#32
  let v179 : BitVec 32 := Scalar.muli v178 c512_i32_123
  let c1_i32_163 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v246 : BitVec 32 := Scalar.subi c1_i32_163 v31
  let c256_i32_164 : BitVec 32 := 256#32
  let v247 : BitVec 32 := Scalar.muli v246 c256_i32_164
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_165 : BitVec 32 := 128#32
  let v248 : BitVec 32 := Scalar.muli v35 c128_i32_165
  let v249 : BitVec 32 := Scalar.addi v247 v248
  let v266 : BitVec 32 := Scalar.addi v179 v249
  let c0_i32_186 : BitVec 32 := 0#32
  ![v266.toNat, 0]
def k0_dev5 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v36 : BitVec 32 := Scalar.xori v2 c4_i32_17
  let c1_i32_183 : BitVec 32 := 1#32
  let v267 : BitVec 32 := Scalar.muli v36 c1_i32_183
  let v268 : BitVec 32 := Scalar.addi c0_i32_184 v267
  v268.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c256_i32_166 : BitVec 32 := 256#32
  let v250 : BitVec 32 := Scalar.muli v31 c256_i32_166
  let c1_i32_167 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v251 : BitVec 32 := Scalar.subi c1_i32_167 v35
  let c128_i32_168 : BitVec 32 := 128#32
  let v252 : BitVec 32 := Scalar.muli v251 c128_i32_168
  let v253 : BitVec 32 := Scalar.addi v250 v252
  let c0_i32_193 : BitVec 32 := 0#32
  ![v253.toNat, 0]
def k0_off12 (d0 : Dev nD) : Fin 2 → Nat :=
  let c1_i32_122 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v178 : BitVec 32 := Scalar.subi c1_i32_122 v29
  let c512_i32_123 : BitVec 32 := 512#32
  let v179 : BitVec 32 := Scalar.muli v178 c512_i32_123
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c256_i32_166 : BitVec 32 := 256#32
  let v250 : BitVec 32 := Scalar.muli v31 c256_i32_166
  let c1_i32_167 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v251 : BitVec 32 := Scalar.subi c1_i32_167 v35
  let c128_i32_168 : BitVec 32 := 128#32
  let v252 : BitVec 32 := Scalar.muli v251 c128_i32_168
  let v253 : BitVec 32 := Scalar.addi v250 v252
  let v275 : BitVec 32 := Scalar.addi v179 v253
  let c0_i32_194 : BitVec 32 := 0#32
  ![v275.toNat, 0]
def k0_dev6 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v36 : BitVec 32 := Scalar.xori v2 c4_i32_17
  let c1_i32_191 : BitVec 32 := 1#32
  let v276 : BitVec 32 := Scalar.muli v36 c1_i32_191
  let v277 : BitVec 32 := Scalar.addi c0_i32_192 v276
  v277.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c256_i32_169 : BitVec 32 := 256#32
  let v254 : BitVec 32 := Scalar.muli v31 c256_i32_169
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_170 : BitVec 32 := 128#32
  let v255 : BitVec 32 := Scalar.muli v35 c128_i32_170
  let v256 : BitVec 32 := Scalar.addi v254 v255
  let c0_i32_201 : BitVec 32 := 0#32
  ![v256.toNat, 0]
def k0_off14 (d0 : Dev nD) : Fin 2 → Nat :=
  let c1_i32_122 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v178 : BitVec 32 := Scalar.subi c1_i32_122 v29
  let c512_i32_123 : BitVec 32 := 512#32
  let v179 : BitVec 32 := Scalar.muli v178 c512_i32_123
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c256_i32_169 : BitVec 32 := 256#32
  let v254 : BitVec 32 := Scalar.muli v31 c256_i32_169
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_170 : BitVec 32 := 128#32
  let v255 : BitVec 32 := Scalar.muli v35 c128_i32_170
  let v256 : BitVec 32 := Scalar.addi v254 v255
  let v284 : BitVec 32 := Scalar.addi v179 v256
  let c0_i32_202 : BitVec 32 := 0#32
  ![v284.toNat, 0]
def k0_dev7 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v36 : BitVec 32 := Scalar.xori v2 c4_i32_17
  let c1_i32_199 : BitVec 32 := 1#32
  let v285 : BitVec 32 := Scalar.muli v36 c1_i32_199
  let v286 : BitVec 32 := Scalar.addi c0_i32_200 v285
  v286.toNat
def k0_off15 (d0 : Dev nD) : Fin 2 → Nat :=
  let c1_i32_203 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v293 : BitVec 32 := Scalar.subi c1_i32_203 v35
  let c256_i32_204 : BitVec 32 := 256#32
  let v294 : BitVec 32 := Scalar.muli v293 c256_i32_204
  let c1_i32_205 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v295 : BitVec 32 := Scalar.subi c1_i32_205 v29
  let c128_i32_206 : BitVec 32 := 128#32
  let v296 : BitVec 32 := Scalar.muli v295 c128_i32_206
  let v297 : BitVec 32 := Scalar.addi v294 v296
  let c0_i32_221 : BitVec 32 := 0#32
  ![v297.toNat, 0]
def k0_off16 (d0 : Dev nD) : Fin 2 → Nat :=
  let c1_i32_124 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v180 : BitVec 32 := Scalar.subi c1_i32_124 v31
  let c512_i32_125 : BitVec 32 := 512#32
  let v181 : BitVec 32 := Scalar.muli v180 c512_i32_125
  let c1_i32_203 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v293 : BitVec 32 := Scalar.subi c1_i32_203 v35
  let c256_i32_204 : BitVec 32 := 256#32
  let v294 : BitVec 32 := Scalar.muli v293 c256_i32_204
  let c1_i32_205 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v295 : BitVec 32 := Scalar.subi c1_i32_205 v29
  let c128_i32_206 : BitVec 32 := 128#32
  let v296 : BitVec 32 := Scalar.muli v295 c128_i32_206
  let v297 : BitVec 32 := Scalar.addi v294 v296
  let v309 : BitVec 32 := Scalar.addi v181 v297
  let c0_i32_222 : BitVec 32 := 0#32
  ![v309.toNat, 0]
def k0_dev8 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v37 : BitVec 32 := Scalar.subi v2 v12
  let c3_i32 : BitVec 32 := 3#32
  let v38 : BitVec 32 := Scalar.subi c3_i32 v12
  let v39 : BitVec 32 := Scalar.addi v37 v38
  let c1_i32_219 : BitVec 32 := 1#32
  let v310 : BitVec 32 := Scalar.muli v39 c1_i32_219
  let v311 : BitVec 32 := Scalar.addi c0_i32_220 v310
  v311.toNat
def k0_off17 (d0 : Dev nD) : Fin 2 → Nat :=
  let c1_i32_207 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v298 : BitVec 32 := Scalar.subi c1_i32_207 v35
  let c256_i32_208 : BitVec 32 := 256#32
  let v299 : BitVec 32 := Scalar.muli v298 c256_i32_208
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_209 : BitVec 32 := 128#32
  let v300 : BitVec 32 := Scalar.muli v29 c128_i32_209
  let v301 : BitVec 32 := Scalar.addi v299 v300
  let c0_i32_229 : BitVec 32 := 0#32
  ![v301.toNat, 0]
def k0_off18 (d0 : Dev nD) : Fin 2 → Nat :=
  let c1_i32_124 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v180 : BitVec 32 := Scalar.subi c1_i32_124 v31
  let c512_i32_125 : BitVec 32 := 512#32
  let v181 : BitVec 32 := Scalar.muli v180 c512_i32_125
  let c1_i32_207 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v298 : BitVec 32 := Scalar.subi c1_i32_207 v35
  let c256_i32_208 : BitVec 32 := 256#32
  let v299 : BitVec 32 := Scalar.muli v298 c256_i32_208
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_209 : BitVec 32 := 128#32
  let v300 : BitVec 32 := Scalar.muli v29 c128_i32_209
  let v301 : BitVec 32 := Scalar.addi v299 v300
  let v318 : BitVec 32 := Scalar.addi v181 v301
  let c0_i32_230 : BitVec 32 := 0#32
  ![v318.toNat, 0]
def k0_dev9 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v37 : BitVec 32 := Scalar.subi v2 v12
  let c3_i32 : BitVec 32 := 3#32
  let v38 : BitVec 32 := Scalar.subi c3_i32 v12
  let v39 : BitVec 32 := Scalar.addi v37 v38
  let c1_i32_227 : BitVec 32 := 1#32
  let v319 : BitVec 32 := Scalar.muli v39 c1_i32_227
  let v320 : BitVec 32 := Scalar.addi c0_i32_228 v319
  v320.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32_210 : BitVec 32 := 256#32
  let v302 : BitVec 32 := Scalar.muli v35 c256_i32_210
  let c1_i32_211 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v303 : BitVec 32 := Scalar.subi c1_i32_211 v29
  let c128_i32_212 : BitVec 32 := 128#32
  let v304 : BitVec 32 := Scalar.muli v303 c128_i32_212
  let v305 : BitVec 32 := Scalar.addi v302 v304
  let c0_i32_237 : BitVec 32 := 0#32
  ![v305.toNat, 0]
def k0_off20 (d0 : Dev nD) : Fin 2 → Nat :=
  let c1_i32_124 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v180 : BitVec 32 := Scalar.subi c1_i32_124 v31
  let c512_i32_125 : BitVec 32 := 512#32
  let v181 : BitVec 32 := Scalar.muli v180 c512_i32_125
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32_210 : BitVec 32 := 256#32
  let v302 : BitVec 32 := Scalar.muli v35 c256_i32_210
  let c1_i32_211 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v303 : BitVec 32 := Scalar.subi c1_i32_211 v29
  let c128_i32_212 : BitVec 32 := 128#32
  let v304 : BitVec 32 := Scalar.muli v303 c128_i32_212
  let v305 : BitVec 32 := Scalar.addi v302 v304
  let v327 : BitVec 32 := Scalar.addi v181 v305
  let c0_i32_238 : BitVec 32 := 0#32
  ![v327.toNat, 0]
def k0_dev10 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v37 : BitVec 32 := Scalar.subi v2 v12
  let c3_i32 : BitVec 32 := 3#32
  let v38 : BitVec 32 := Scalar.subi c3_i32 v12
  let v39 : BitVec 32 := Scalar.addi v37 v38
  let c1_i32_235 : BitVec 32 := 1#32
  let v328 : BitVec 32 := Scalar.muli v39 c1_i32_235
  let v329 : BitVec 32 := Scalar.addi c0_i32_236 v328
  v329.toNat
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32_213 : BitVec 32 := 256#32
  let v306 : BitVec 32 := Scalar.muli v35 c256_i32_213
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_214 : BitVec 32 := 128#32
  let v307 : BitVec 32 := Scalar.muli v29 c128_i32_214
  let v308 : BitVec 32 := Scalar.addi v306 v307
  let c0_i32_245 : BitVec 32 := 0#32
  ![v308.toNat, 0]
def k0_off22 (d0 : Dev nD) : Fin 2 → Nat :=
  let c1_i32_124 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v180 : BitVec 32 := Scalar.subi c1_i32_124 v31
  let c512_i32_125 : BitVec 32 := 512#32
  let v181 : BitVec 32 := Scalar.muli v180 c512_i32_125
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32_213 : BitVec 32 := 256#32
  let v306 : BitVec 32 := Scalar.muli v35 c256_i32_213
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_214 : BitVec 32 := 128#32
  let v307 : BitVec 32 := Scalar.muli v29 c128_i32_214
  let v308 : BitVec 32 := Scalar.addi v306 v307
  let v336 : BitVec 32 := Scalar.addi v181 v308
  let c0_i32_246 : BitVec 32 := 0#32
  ![v336.toNat, 0]
def k0_dev11 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v37 : BitVec 32 := Scalar.subi v2 v12
  let c3_i32 : BitVec 32 := 3#32
  let v38 : BitVec 32 := Scalar.subi c3_i32 v12
  let v39 : BitVec 32 := Scalar.addi v37 v38
  let c1_i32_243 : BitVec 32 := 1#32
  let v337 : BitVec 32 := Scalar.muli v39 c1_i32_243
  let v338 : BitVec 32 := Scalar.addi c0_i32_244 v337
  v338.toNat
def k0_off23 (d0 : Dev nD) : Fin 2 → Nat :=
  let c1_i32_247 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v345 : BitVec 32 := Scalar.subi c1_i32_247 v29
  let c256_i32_248 : BitVec 32 := 256#32
  let v346 : BitVec 32 := Scalar.muli v345 c256_i32_248
  let c1_i32_249 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v347 : BitVec 32 := Scalar.subi c1_i32_249 v31
  let c128_i32_250 : BitVec 32 := 128#32
  let v348 : BitVec 32 := Scalar.muli v347 c128_i32_250
  let v349 : BitVec 32 := Scalar.addi v346 v348
  let c0_i32_265 : BitVec 32 := 0#32
  ![v349.toNat, 0]
def k0_off24 (d0 : Dev nD) : Fin 2 → Nat :=
  let c1_i32_126 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v182 : BitVec 32 := Scalar.subi c1_i32_126 v35
  let c512_i32_127 : BitVec 32 := 512#32
  let v183 : BitVec 32 := Scalar.muli v182 c512_i32_127
  let c1_i32_247 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v345 : BitVec 32 := Scalar.subi c1_i32_247 v29
  let c256_i32_248 : BitVec 32 := 256#32
  let v346 : BitVec 32 := Scalar.muli v345 c256_i32_248
  let c1_i32_249 : BitVec 32 := 1#32
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v347 : BitVec 32 := Scalar.subi c1_i32_249 v31
  let c128_i32_250 : BitVec 32 := 128#32
  let v348 : BitVec 32 := Scalar.muli v347 c128_i32_250
  let v349 : BitVec 32 := Scalar.addi v346 v348
  let v361 : BitVec 32 := Scalar.addi v183 v349
  let c0_i32_266 : BitVec 32 := 0#32
  ![v361.toNat, 0]
def k0_dev12 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v40 : BitVec 32 := Scalar.subi v2 v12
  let c1_i32_18 : BitVec 32 := 1#32
  let v41 : BitVec 32 := Scalar.xori v12 c1_i32_18
  let v42 : BitVec 32 := Scalar.addi v40 v41
  let c1_i32_263 : BitVec 32 := 1#32
  let v362 : BitVec 32 := Scalar.muli v42 c1_i32_263
  let v363 : BitVec 32 := Scalar.addi c0_i32_264 v362
  v363.toNat
def k0_off25 (d0 : Dev nD) : Fin 2 → Nat :=
  let c1_i32_251 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v350 : BitVec 32 := Scalar.subi c1_i32_251 v29
  let c256_i32_252 : BitVec 32 := 256#32
  let v351 : BitVec 32 := Scalar.muli v350 c256_i32_252
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c128_i32_253 : BitVec 32 := 128#32
  let v352 : BitVec 32 := Scalar.muli v31 c128_i32_253
  let v353 : BitVec 32 := Scalar.addi v351 v352
  let c0_i32_273 : BitVec 32 := 0#32
  ![v353.toNat, 0]
def k0_off26 (d0 : Dev nD) : Fin 2 → Nat :=
  let c1_i32_126 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v182 : BitVec 32 := Scalar.subi c1_i32_126 v35
  let c512_i32_127 : BitVec 32 := 512#32
  let v183 : BitVec 32 := Scalar.muli v182 c512_i32_127
  let c1_i32_251 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v350 : BitVec 32 := Scalar.subi c1_i32_251 v29
  let c256_i32_252 : BitVec 32 := 256#32
  let v351 : BitVec 32 := Scalar.muli v350 c256_i32_252
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c128_i32_253 : BitVec 32 := 128#32
  let v352 : BitVec 32 := Scalar.muli v31 c128_i32_253
  let v353 : BitVec 32 := Scalar.addi v351 v352
  let v370 : BitVec 32 := Scalar.addi v183 v353
  let c0_i32_274 : BitVec 32 := 0#32
  ![v370.toNat, 0]
def k0_dev13 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v40 : BitVec 32 := Scalar.subi v2 v12
  let c1_i32_18 : BitVec 32 := 1#32
  let v41 : BitVec 32 := Scalar.xori v12 c1_i32_18
  let v42 : BitVec 32 := Scalar.addi v40 v41
  let c1_i32_271 : BitVec 32 := 1#32
  let v371 : BitVec 32 := Scalar.muli v42 c1_i32_271
  let v372 : BitVec 32 := Scalar.addi c0_i32_272 v371
  v372.toNat
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_254 : BitVec 32 := 256#32
  let v354 : BitVec 32 := Scalar.muli v29 c256_i32_254
  let c1_i32_255 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v355 : BitVec 32 := Scalar.subi c1_i32_255 v31
  let c128_i32_256 : BitVec 32 := 128#32
  let v356 : BitVec 32 := Scalar.muli v355 c128_i32_256
  let v357 : BitVec 32 := Scalar.addi v354 v356
  let c0_i32_281 : BitVec 32 := 0#32
  ![v357.toNat, 0]
def k0_off28 (d0 : Dev nD) : Fin 2 → Nat :=
  let c1_i32_126 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v182 : BitVec 32 := Scalar.subi c1_i32_126 v35
  let c512_i32_127 : BitVec 32 := 512#32
  let v183 : BitVec 32 := Scalar.muli v182 c512_i32_127
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_254 : BitVec 32 := 256#32
  let v354 : BitVec 32 := Scalar.muli v29 c256_i32_254
  let c1_i32_255 : BitVec 32 := 1#32
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v355 : BitVec 32 := Scalar.subi c1_i32_255 v31
  let c128_i32_256 : BitVec 32 := 128#32
  let v356 : BitVec 32 := Scalar.muli v355 c128_i32_256
  let v357 : BitVec 32 := Scalar.addi v354 v356
  let v379 : BitVec 32 := Scalar.addi v183 v357
  let c0_i32_282 : BitVec 32 := 0#32
  ![v379.toNat, 0]
def k0_dev14 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v40 : BitVec 32 := Scalar.subi v2 v12
  let c1_i32_18 : BitVec 32 := 1#32
  let v41 : BitVec 32 := Scalar.xori v12 c1_i32_18
  let v42 : BitVec 32 := Scalar.addi v40 v41
  let c1_i32_279 : BitVec 32 := 1#32
  let v380 : BitVec 32 := Scalar.muli v42 c1_i32_279
  let v381 : BitVec 32 := Scalar.addi c0_i32_280 v380
  v381.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_257 : BitVec 32 := 256#32
  let v358 : BitVec 32 := Scalar.muli v29 c256_i32_257
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c128_i32_258 : BitVec 32 := 128#32
  let v359 : BitVec 32 := Scalar.muli v31 c128_i32_258
  let v360 : BitVec 32 := Scalar.addi v358 v359
  let c0_i32_289 : BitVec 32 := 0#32
  ![v360.toNat, 0]
def k0_off30 (d0 : Dev nD) : Fin 2 → Nat :=
  let c1_i32_126 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v182 : BitVec 32 := Scalar.subi c1_i32_126 v35
  let c512_i32_127 : BitVec 32 := 512#32
  let v183 : BitVec 32 := Scalar.muli v182 c512_i32_127
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_257 : BitVec 32 := 256#32
  let v358 : BitVec 32 := Scalar.muli v29 c256_i32_257
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c128_i32_258 : BitVec 32 := 128#32
  let v359 : BitVec 32 := Scalar.muli v31 c128_i32_258
  let v360 : BitVec 32 := Scalar.addi v358 v359
  let v388 : BitVec 32 := Scalar.addi v183 v360
  let c0_i32_290 : BitVec 32 := 0#32
  ![v388.toNat, 0]
def k0_dev15 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v40 : BitVec 32 := Scalar.subi v2 v12
  let c1_i32_18 : BitVec 32 := 1#32
  let v41 : BitVec 32 := Scalar.xori v12 c1_i32_18
  let v42 : BitVec 32 := Scalar.addi v40 v41
  let c1_i32_287 : BitVec 32 := 1#32
  let v389 : BitVec 32 := Scalar.muli v42 c1_i32_287
  let v390 : BitVec 32 := Scalar.addi c0_i32_288 v389
  v390.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32 : BitVec 32 := 512#32
  let v175 : BitVec 32 := Scalar.muli v29 c512_i32
  let v397 : Index := Scalar.indexCast v175
  let c0_291 : Index := 0#32
  ![v397.toNat, 0]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32 : BitVec 32 := 512#32
  let v175 : BitVec 32 := Scalar.muli v29 c512_i32
  let v402 : Index := Scalar.indexCast v175
  let c0_295 : Index := 0#32
  ![v402.toNat, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c512_i32_120 : BitVec 32 := 512#32
  let v176 : BitVec 32 := Scalar.muli v31 c512_i32_120
  let v406 : Index := Scalar.indexCast v176
  let c0_296 : Index := 0#32
  ![v406.toNat, 0]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c512_i32_120 : BitVec 32 := 512#32
  let v176 : BitVec 32 := Scalar.muli v31 c512_i32_120
  let v411 : Index := Scalar.indexCast v176
  let c0_300 : Index := 0#32
  ![v411.toNat, 0]
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c512_i32_121 : BitVec 32 := 512#32
  let v177 : BitVec 32 := Scalar.muli v35 c512_i32_121
  let v415 : Index := Scalar.indexCast v177
  let c0_301 : Index := 0#32
  ![v415.toNat, 0]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c512_i32_121 : BitVec 32 := 512#32
  let v177 : BitVec 32 := Scalar.muli v35 c512_i32_121
  let v420 : Index := Scalar.indexCast v177
  let c0_305 : Index := 0#32
  ![v420.toNat, 0]
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32 : BitVec 32 := 512#32
  let v175 : BitVec 32 := Scalar.muli v29 c512_i32
  let c1_i32_128 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v184 : BitVec 32 := Scalar.subi c1_i32_128 v31
  let c256_i32 : BitVec 32 := 256#32
  let v185 : BitVec 32 := Scalar.muli v184 c256_i32
  let v186 : BitVec 32 := Scalar.addi v175 v185
  let c1_i32_321 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v434 : BitVec 32 := Scalar.subi c1_i32_321 v35
  let c128_i32_322 : BitVec 32 := 128#32
  let v435 : BitVec 32 := Scalar.muli v434 c128_i32_322
  let v436 : BitVec 32 := Scalar.addi v186 v435
  let v442 : Index := Scalar.indexCast v436
  let c0_327 : Index := 0#32
  ![v442.toNat, 0]
def k0_off38 (d0 : Dev nD) : Fin 2 → Nat :=
  let c1_i32_323 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v437 : BitVec 32 := Scalar.subi c1_i32_323 v31
  let c256_i32_324 : BitVec 32 := 256#32
  let v438 : BitVec 32 := Scalar.muli v437 c256_i32_324
  let c1_i32_325 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v439 : BitVec 32 := Scalar.subi c1_i32_325 v35
  let c128_i32_326 : BitVec 32 := 128#32
  let v440 : BitVec 32 := Scalar.muli v439 c128_i32_326
  let v441 : BitVec 32 := Scalar.addi v438 v440
  let v445 : Index := Scalar.indexCast v441
  let c0_328 : Index := 0#32
  ![v445.toNat, 0]
def k0_off39 (d0 : Dev nD) : Fin 2 → Nat :=
  let c1_i32_332 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v457 : BitVec 32 := Scalar.subi c1_i32_332 v35
  let c128_i32_333 : BitVec 32 := 128#32
  let v458 : BitVec 32 := Scalar.muli v457 c128_i32_333
  let c0_i32_340 : BitVec 32 := 0#32
  ![v458.toNat, 0]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32 : BitVec 32 := 512#32
  let v175 : BitVec 32 := Scalar.muli v29 c512_i32
  let c1_i32_128 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v184 : BitVec 32 := Scalar.subi c1_i32_128 v31
  let c256_i32 : BitVec 32 := 256#32
  let v185 : BitVec 32 := Scalar.muli v184 c256_i32
  let v186 : BitVec 32 := Scalar.addi v175 v185
  let c1_i32_330 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v454 : BitVec 32 := Scalar.subi c1_i32_330 v35
  let c128_i32_331 : BitVec 32 := 128#32
  let v455 : BitVec 32 := Scalar.muli v454 c128_i32_331
  let v456 : BitVec 32 := Scalar.addi v186 v455
  let c0_i32_341 : BitVec 32 := 0#32
  ![v456.toNat, 0]
def k0_dev16 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v37 : BitVec 32 := Scalar.subi v2 v12
  let c3_i32 : BitVec 32 := 3#32
  let v38 : BitVec 32 := Scalar.subi c3_i32 v12
  let v39 : BitVec 32 := Scalar.addi v37 v38
  let c1_i32_338 : BitVec 32 := 1#32
  let v459 : BitVec 32 := Scalar.muli v39 c1_i32_338
  let v460 : BitVec 32 := Scalar.addi c0_i32_339 v459
  v460.toNat
def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c512_i32_120 : BitVec 32 := 512#32
  let v176 : BitVec 32 := Scalar.muli v31 c512_i32_120
  let c1_i32_129 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v187 : BitVec 32 := Scalar.subi c1_i32_129 v35
  let c256_i32_130 : BitVec 32 := 256#32
  let v188 : BitVec 32 := Scalar.muli v187 c256_i32_130
  let v189 : BitVec 32 := Scalar.addi v176 v188
  let c1_i32_357 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v477 : BitVec 32 := Scalar.subi c1_i32_357 v29
  let c128_i32_358 : BitVec 32 := 128#32
  let v478 : BitVec 32 := Scalar.muli v477 c128_i32_358
  let v479 : BitVec 32 := Scalar.addi v189 v478
  let v485 : Index := Scalar.indexCast v479
  let c0_363 : Index := 0#32
  ![v485.toNat, 0]
def k0_off42 (d0 : Dev nD) : Fin 2 → Nat :=
  let c1_i32_359 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v480 : BitVec 32 := Scalar.subi c1_i32_359 v35
  let c256_i32_360 : BitVec 32 := 256#32
  let v481 : BitVec 32 := Scalar.muli v480 c256_i32_360
  let c1_i32_361 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v482 : BitVec 32 := Scalar.subi c1_i32_361 v29
  let c128_i32_362 : BitVec 32 := 128#32
  let v483 : BitVec 32 := Scalar.muli v482 c128_i32_362
  let v484 : BitVec 32 := Scalar.addi v481 v483
  let v488 : Index := Scalar.indexCast v484
  let c0_364 : Index := 0#32
  ![v488.toNat, 0]
def k0_off43 (d0 : Dev nD) : Fin 2 → Nat :=
  let c1_i32_368 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v500 : BitVec 32 := Scalar.subi c1_i32_368 v29
  let c128_i32_369 : BitVec 32 := 128#32
  let v501 : BitVec 32 := Scalar.muli v500 c128_i32_369
  let c0_i32_376 : BitVec 32 := 0#32
  ![v501.toNat, 0]
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c512_i32_120 : BitVec 32 := 512#32
  let v176 : BitVec 32 := Scalar.muli v31 c512_i32_120
  let c1_i32_129 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v187 : BitVec 32 := Scalar.subi c1_i32_129 v35
  let c256_i32_130 : BitVec 32 := 256#32
  let v188 : BitVec 32 := Scalar.muli v187 c256_i32_130
  let v189 : BitVec 32 := Scalar.addi v176 v188
  let c1_i32_366 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v497 : BitVec 32 := Scalar.subi c1_i32_366 v29
  let c128_i32_367 : BitVec 32 := 128#32
  let v498 : BitVec 32 := Scalar.muli v497 c128_i32_367
  let v499 : BitVec 32 := Scalar.addi v189 v498
  let c0_i32_377 : BitVec 32 := 0#32
  ![v499.toNat, 0]
def k0_dev17 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v40 : BitVec 32 := Scalar.subi v2 v12
  let c1_i32_18 : BitVec 32 := 1#32
  let v41 : BitVec 32 := Scalar.xori v12 c1_i32_18
  let v42 : BitVec 32 := Scalar.addi v40 v41
  let c1_i32_374 : BitVec 32 := 1#32
  let v502 : BitVec 32 := Scalar.muli v42 c1_i32_374
  let v503 : BitVec 32 := Scalar.addi c0_i32_375 v502
  v503.toNat
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c512_i32_121 : BitVec 32 := 512#32
  let v177 : BitVec 32 := Scalar.muli v35 c512_i32_121
  let c1_i32_131 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v190 : BitVec 32 := Scalar.subi c1_i32_131 v29
  let c256_i32_132 : BitVec 32 := 256#32
  let v191 : BitVec 32 := Scalar.muli v190 c256_i32_132
  let v192 : BitVec 32 := Scalar.addi v177 v191
  let c1_i32_393 : BitVec 32 := 1#32
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v520 : BitVec 32 := Scalar.subi c1_i32_393 v31
  let c128_i32_394 : BitVec 32 := 128#32
  let v521 : BitVec 32 := Scalar.muli v520 c128_i32_394
  let v522 : BitVec 32 := Scalar.addi v192 v521
  let v528 : Index := Scalar.indexCast v522
  let c0_399 : Index := 0#32
  ![v528.toNat, 0]
def k0_off46 (d0 : Dev nD) : Fin 2 → Nat :=
  let c1_i32_395 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v523 : BitVec 32 := Scalar.subi c1_i32_395 v29
  let c256_i32_396 : BitVec 32 := 256#32
  let v524 : BitVec 32 := Scalar.muli v523 c256_i32_396
  let c1_i32_397 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v525 : BitVec 32 := Scalar.subi c1_i32_397 v31
  let c128_i32_398 : BitVec 32 := 128#32
  let v526 : BitVec 32 := Scalar.muli v525 c128_i32_398
  let v527 : BitVec 32 := Scalar.addi v524 v526
  let v531 : Index := Scalar.indexCast v527
  let c0_400 : Index := 0#32
  ![v531.toNat, 0]
def k0_off47 (d0 : Dev nD) : Fin 2 → Nat :=
  let c1_i32_404 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v543 : BitVec 32 := Scalar.subi c1_i32_404 v31
  let c128_i32_405 : BitVec 32 := 128#32
  let v544 : BitVec 32 := Scalar.muli v543 c128_i32_405
  let c0_i32_412 : BitVec 32 := 0#32
  ![v544.toNat, 0]
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c512_i32_121 : BitVec 32 := 512#32
  let v177 : BitVec 32 := Scalar.muli v35 c512_i32_121
  let c1_i32_131 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v190 : BitVec 32 := Scalar.subi c1_i32_131 v29
  let c256_i32_132 : BitVec 32 := 256#32
  let v191 : BitVec 32 := Scalar.muli v190 c256_i32_132
  let v192 : BitVec 32 := Scalar.addi v177 v191
  let c1_i32_402 : BitVec 32 := 1#32
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v540 : BitVec 32 := Scalar.subi c1_i32_402 v31
  let c128_i32_403 : BitVec 32 := 128#32
  let v541 : BitVec 32 := Scalar.muli v540 c128_i32_403
  let v542 : BitVec 32 := Scalar.addi v192 v541
  let c0_i32_413 : BitVec 32 := 0#32
  ![v542.toNat, 0]
def k0_dev18 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v36 : BitVec 32 := Scalar.xori v2 c4_i32_17
  let c1_i32_410 : BitVec 32 := 1#32
  let v545 : BitVec 32 := Scalar.muli v36 c1_i32_410
  let v546 : BitVec 32 := Scalar.addi c0_i32_411 v545
  v546.toNat
def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32 : BitVec 32 := 512#32
  let v175 : BitVec 32 := Scalar.muli v29 c512_i32
  let c1_i32_128 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v184 : BitVec 32 := Scalar.subi c1_i32_128 v31
  let c256_i32 : BitVec 32 := 256#32
  let v185 : BitVec 32 := Scalar.muli v184 c256_i32
  let v186 : BitVec 32 := Scalar.addi v175 v185
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_429 : BitVec 32 := 128#32
  let v563 : BitVec 32 := Scalar.muli v35 c128_i32_429
  let v564 : BitVec 32 := Scalar.addi v186 v563
  let v569 : Index := Scalar.indexCast v564
  let c0_433 : Index := 0#32
  ![v569.toNat, 0]
def k0_off50 (d0 : Dev nD) : Fin 2 → Nat :=
  let c1_i32_430 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v565 : BitVec 32 := Scalar.subi c1_i32_430 v31
  let c256_i32_431 : BitVec 32 := 256#32
  let v566 : BitVec 32 := Scalar.muli v565 c256_i32_431
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_432 : BitVec 32 := 128#32
  let v567 : BitVec 32 := Scalar.muli v35 c128_i32_432
  let v568 : BitVec 32 := Scalar.addi v566 v567
  let v572 : Index := Scalar.indexCast v568
  let c0_434 : Index := 0#32
  ![v572.toNat, 0]
def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_437 : BitVec 32 := 128#32
  let v583 : BitVec 32 := Scalar.muli v35 c128_i32_437
  let c0_i32_443 : BitVec 32 := 0#32
  ![v583.toNat, 0]
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32 : BitVec 32 := 512#32
  let v175 : BitVec 32 := Scalar.muli v29 c512_i32
  let c1_i32_128 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v184 : BitVec 32 := Scalar.subi c1_i32_128 v31
  let c256_i32 : BitVec 32 := 256#32
  let v185 : BitVec 32 := Scalar.muli v184 c256_i32
  let v186 : BitVec 32 := Scalar.addi v175 v185
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_436 : BitVec 32 := 128#32
  let v581 : BitVec 32 := Scalar.muli v35 c128_i32_436
  let v582 : BitVec 32 := Scalar.addi v186 v581
  let c0_i32_444 : BitVec 32 := 0#32
  ![v582.toNat, 0]
def k0_dev19 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v37 : BitVec 32 := Scalar.subi v2 v12
  let c3_i32 : BitVec 32 := 3#32
  let v38 : BitVec 32 := Scalar.subi c3_i32 v12
  let v39 : BitVec 32 := Scalar.addi v37 v38
  let c1_i32_441 : BitVec 32 := 1#32
  let v584 : BitVec 32 := Scalar.muli v39 c1_i32_441
  let v585 : BitVec 32 := Scalar.addi c0_i32_442 v584
  v585.toNat
def k0_off53 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c512_i32_120 : BitVec 32 := 512#32
  let v176 : BitVec 32 := Scalar.muli v31 c512_i32_120
  let c1_i32_129 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v187 : BitVec 32 := Scalar.subi c1_i32_129 v35
  let c256_i32_130 : BitVec 32 := 256#32
  let v188 : BitVec 32 := Scalar.muli v187 c256_i32_130
  let v189 : BitVec 32 := Scalar.addi v176 v188
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_460 : BitVec 32 := 128#32
  let v602 : BitVec 32 := Scalar.muli v29 c128_i32_460
  let v603 : BitVec 32 := Scalar.addi v189 v602
  let v608 : Index := Scalar.indexCast v603
  let c0_464 : Index := 0#32
  ![v608.toNat, 0]
def k0_off54 (d0 : Dev nD) : Fin 2 → Nat :=
  let c1_i32_461 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v604 : BitVec 32 := Scalar.subi c1_i32_461 v35
  let c256_i32_462 : BitVec 32 := 256#32
  let v605 : BitVec 32 := Scalar.muli v604 c256_i32_462
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_463 : BitVec 32 := 128#32
  let v606 : BitVec 32 := Scalar.muli v29 c128_i32_463
  let v607 : BitVec 32 := Scalar.addi v605 v606
  let v611 : Index := Scalar.indexCast v607
  let c0_465 : Index := 0#32
  ![v611.toNat, 0]
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_468 : BitVec 32 := 128#32
  let v622 : BitVec 32 := Scalar.muli v29 c128_i32_468
  let c0_i32_475 : BitVec 32 := 0#32
  ![v622.toNat, 0]
def k0_off56 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c512_i32_120 : BitVec 32 := 512#32
  let v176 : BitVec 32 := Scalar.muli v31 c512_i32_120
  let c1_i32_129 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v187 : BitVec 32 := Scalar.subi c1_i32_129 v35
  let c256_i32_130 : BitVec 32 := 256#32
  let v188 : BitVec 32 := Scalar.muli v187 c256_i32_130
  let v189 : BitVec 32 := Scalar.addi v176 v188
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_467 : BitVec 32 := 128#32
  let v620 : BitVec 32 := Scalar.muli v29 c128_i32_467
  let v621 : BitVec 32 := Scalar.addi v189 v620
  let c0_i32_476 : BitVec 32 := 0#32
  ![v621.toNat, 0]
def k0_dev20 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v40 : BitVec 32 := Scalar.subi v2 v12
  let c1_i32_18 : BitVec 32 := 1#32
  let v41 : BitVec 32 := Scalar.xori v12 c1_i32_18
  let v42 : BitVec 32 := Scalar.addi v40 v41
  let c1_i32_473 : BitVec 32 := 1#32
  let v623 : BitVec 32 := Scalar.muli v42 c1_i32_473
  let v624 : BitVec 32 := Scalar.addi c0_i32_474 v623
  v624.toNat
def k0_off57 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c512_i32_121 : BitVec 32 := 512#32
  let v177 : BitVec 32 := Scalar.muli v35 c512_i32_121
  let c1_i32_131 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v190 : BitVec 32 := Scalar.subi c1_i32_131 v29
  let c256_i32_132 : BitVec 32 := 256#32
  let v191 : BitVec 32 := Scalar.muli v190 c256_i32_132
  let v192 : BitVec 32 := Scalar.addi v177 v191
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c128_i32_492 : BitVec 32 := 128#32
  let v641 : BitVec 32 := Scalar.muli v31 c128_i32_492
  let v642 : BitVec 32 := Scalar.addi v192 v641
  let v647 : Index := Scalar.indexCast v642
  let c0_496 : Index := 0#32
  ![v647.toNat, 0]
def k0_off58 (d0 : Dev nD) : Fin 2 → Nat :=
  let c1_i32_493 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v643 : BitVec 32 := Scalar.subi c1_i32_493 v29
  let c256_i32_494 : BitVec 32 := 256#32
  let v644 : BitVec 32 := Scalar.muli v643 c256_i32_494
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c128_i32_495 : BitVec 32 := 128#32
  let v645 : BitVec 32 := Scalar.muli v31 c128_i32_495
  let v646 : BitVec 32 := Scalar.addi v644 v645
  let v650 : Index := Scalar.indexCast v646
  let c0_497 : Index := 0#32
  ![v650.toNat, 0]
def k0_off59 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c128_i32_500 : BitVec 32 := 128#32
  let v661 : BitVec 32 := Scalar.muli v31 c128_i32_500
  let c0_i32_507 : BitVec 32 := 0#32
  ![v661.toNat, 0]
def k0_off60 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c512_i32_121 : BitVec 32 := 512#32
  let v177 : BitVec 32 := Scalar.muli v35 c512_i32_121
  let c1_i32_131 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v190 : BitVec 32 := Scalar.subi c1_i32_131 v29
  let c256_i32_132 : BitVec 32 := 256#32
  let v191 : BitVec 32 := Scalar.muli v190 c256_i32_132
  let v192 : BitVec 32 := Scalar.addi v177 v191
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c128_i32_499 : BitVec 32 := 128#32
  let v659 : BitVec 32 := Scalar.muli v31 c128_i32_499
  let v660 : BitVec 32 := Scalar.addi v192 v659
  let c0_i32_508 : BitVec 32 := 0#32
  ![v660.toNat, 0]
def k0_dev21 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v36 : BitVec 32 := Scalar.xori v2 c4_i32_17
  let c1_i32_505 : BitVec 32 := 1#32
  let v662 : BitVec 32 := Scalar.muli v36 c1_i32_505
  let v663 : BitVec 32 := Scalar.addi c0_i32_506 v662
  v663.toNat
def k0_off61 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32 : BitVec 32 := 512#32
  let v175 : BitVec 32 := Scalar.muli v29 c512_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c256_i32_133 : BitVec 32 := 256#32
  let v193 : BitVec 32 := Scalar.muli v31 c256_i32_133
  let v194 : BitVec 32 := Scalar.addi v175 v193
  let c1_i32_136 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v199 : BitVec 32 := Scalar.subi c1_i32_136 v35
  let c128_i32 : BitVec 32 := 128#32
  let v200 : BitVec 32 := Scalar.muli v199 c128_i32
  let v201 : BitVec 32 := Scalar.addi v194 v200
  let v684 : Index := Scalar.indexCast v201
  let c0_527 : Index := 0#32
  ![v684.toNat, 0]
def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c256_i32_524 : BitVec 32 := 256#32
  let v680 : BitVec 32 := Scalar.muli v31 c256_i32_524
  let c1_i32_525 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v681 : BitVec 32 := Scalar.subi c1_i32_525 v35
  let c128_i32_526 : BitVec 32 := 128#32
  let v682 : BitVec 32 := Scalar.muli v681 c128_i32_526
  let v683 : BitVec 32 := Scalar.addi v680 v682
  let v687 : Index := Scalar.indexCast v683
  let c0_528 : Index := 0#32
  ![v687.toNat, 0]
def k0_off63 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c512_i32_120 : BitVec 32 := 512#32
  let v176 : BitVec 32 := Scalar.muli v31 c512_i32_120
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32_134 : BitVec 32 := 256#32
  let v195 : BitVec 32 := Scalar.muli v35 c256_i32_134
  let v196 : BitVec 32 := Scalar.addi v176 v195
  let c1_i32_137 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v202 : BitVec 32 := Scalar.subi c1_i32_137 v29
  let c128_i32_138 : BitVec 32 := 128#32
  let v203 : BitVec 32 := Scalar.muli v202 c128_i32_138
  let v204 : BitVec 32 := Scalar.addi v196 v203
  let v710 : Index := Scalar.indexCast v204
  let c0_548 : Index := 0#32
  ![v710.toNat, 0]
def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32_545 : BitVec 32 := 256#32
  let v706 : BitVec 32 := Scalar.muli v35 c256_i32_545
  let c1_i32_546 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v707 : BitVec 32 := Scalar.subi c1_i32_546 v29
  let c128_i32_547 : BitVec 32 := 128#32
  let v708 : BitVec 32 := Scalar.muli v707 c128_i32_547
  let v709 : BitVec 32 := Scalar.addi v706 v708
  let v713 : Index := Scalar.indexCast v709
  let c0_549 : Index := 0#32
  ![v713.toNat, 0]
def k0_off65 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c512_i32_121 : BitVec 32 := 512#32
  let v177 : BitVec 32 := Scalar.muli v35 c512_i32_121
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_135 : BitVec 32 := 256#32
  let v197 : BitVec 32 := Scalar.muli v29 c256_i32_135
  let v198 : BitVec 32 := Scalar.addi v177 v197
  let c1_i32_139 : BitVec 32 := 1#32
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v205 : BitVec 32 := Scalar.subi c1_i32_139 v31
  let c128_i32_140 : BitVec 32 := 128#32
  let v206 : BitVec 32 := Scalar.muli v205 c128_i32_140
  let v207 : BitVec 32 := Scalar.addi v198 v206
  let v736 : Index := Scalar.indexCast v207
  let c0_569 : Index := 0#32
  ![v736.toNat, 0]
def k0_off66 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_566 : BitVec 32 := 256#32
  let v732 : BitVec 32 := Scalar.muli v29 c256_i32_566
  let c1_i32_567 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v733 : BitVec 32 := Scalar.subi c1_i32_567 v31
  let c128_i32_568 : BitVec 32 := 128#32
  let v734 : BitVec 32 := Scalar.muli v733 c128_i32_568
  let v735 : BitVec 32 := Scalar.addi v732 v734
  let v739 : Index := Scalar.indexCast v735
  let c0_570 : Index := 0#32
  ![v739.toNat, 0]
def k0_off67 (d0 : Dev nD) : Fin 2 → Nat :=
  let c1_i32_587 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v758 : BitVec 32 := Scalar.subi c1_i32_587 v35
  let c128_i32_588 : BitVec 32 := 128#32
  let v759 : BitVec 32 := Scalar.muli v758 c128_i32_588
  let v763 : Index := Scalar.indexCast v759
  let c0_590 : Index := 0#32
  ![v763.toNat, 0]
def k0_off68 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32 : BitVec 32 := 512#32
  let v175 : BitVec 32 := Scalar.muli v29 c512_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c256_i32_133 : BitVec 32 := 256#32
  let v193 : BitVec 32 := Scalar.muli v31 c256_i32_133
  let v194 : BitVec 32 := Scalar.addi v175 v193
  let c1_i32_136 : BitVec 32 := 1#32
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let v199 : BitVec 32 := Scalar.subi c1_i32_136 v35
  let c128_i32 : BitVec 32 := 128#32
  let v200 : BitVec 32 := Scalar.muli v199 c128_i32
  let v201 : BitVec 32 := Scalar.addi v194 v200
  let c0_i32_599 : BitVec 32 := 0#32
  ![v201.toNat, 0]
def k0_dev22 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v40 : BitVec 32 := Scalar.subi v2 v12
  let c1_i32_18 : BitVec 32 := 1#32
  let v41 : BitVec 32 := Scalar.xori v12 c1_i32_18
  let v42 : BitVec 32 := Scalar.addi v40 v41
  let c1_i32_595 : BitVec 32 := 1#32
  let v772 : BitVec 32 := Scalar.muli v42 c1_i32_595
  let v773 : BitVec 32 := Scalar.addi c0_i32_596 v772
  v773.toNat
def k0_off69 (d0 : Dev nD) : Fin 2 → Nat :=
  let c1_i32_615 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v790 : BitVec 32 := Scalar.subi c1_i32_615 v29
  let c128_i32_616 : BitVec 32 := 128#32
  let v791 : BitVec 32 := Scalar.muli v790 c128_i32_616
  let v795 : Index := Scalar.indexCast v791
  let c0_618 : Index := 0#32
  ![v795.toNat, 0]
def k0_off70 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c512_i32_120 : BitVec 32 := 512#32
  let v176 : BitVec 32 := Scalar.muli v31 c512_i32_120
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32_134 : BitVec 32 := 256#32
  let v195 : BitVec 32 := Scalar.muli v35 c256_i32_134
  let v196 : BitVec 32 := Scalar.addi v176 v195
  let c1_i32_137 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v202 : BitVec 32 := Scalar.subi c1_i32_137 v29
  let c128_i32_138 : BitVec 32 := 128#32
  let v203 : BitVec 32 := Scalar.muli v202 c128_i32_138
  let v204 : BitVec 32 := Scalar.addi v196 v203
  let c0_i32_628 : BitVec 32 := 0#32
  ![v204.toNat, 0]
def k0_dev23 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v36 : BitVec 32 := Scalar.xori v2 c4_i32_17
  let c1_i32_624 : BitVec 32 := 1#32
  let v804 : BitVec 32 := Scalar.muli v36 c1_i32_624
  let v805 : BitVec 32 := Scalar.addi c0_i32_625 v804
  v805.toNat
def k0_off71 (d0 : Dev nD) : Fin 2 → Nat :=
  let c1_i32_644 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v822 : BitVec 32 := Scalar.subi c1_i32_644 v31
  let c128_i32_645 : BitVec 32 := 128#32
  let v823 : BitVec 32 := Scalar.muli v822 c128_i32_645
  let v827 : Index := Scalar.indexCast v823
  let c0_647 : Index := 0#32
  ![v827.toNat, 0]
def k0_off72 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c512_i32_121 : BitVec 32 := 512#32
  let v177 : BitVec 32 := Scalar.muli v35 c512_i32_121
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_135 : BitVec 32 := 256#32
  let v197 : BitVec 32 := Scalar.muli v29 c256_i32_135
  let v198 : BitVec 32 := Scalar.addi v177 v197
  let c1_i32_139 : BitVec 32 := 1#32
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let v205 : BitVec 32 := Scalar.subi c1_i32_139 v31
  let c128_i32_140 : BitVec 32 := 128#32
  let v206 : BitVec 32 := Scalar.muli v205 c128_i32_140
  let v207 : BitVec 32 := Scalar.addi v198 v206
  let c0_i32_657 : BitVec 32 := 0#32
  ![v207.toNat, 0]
def k0_dev24 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v37 : BitVec 32 := Scalar.subi v2 v12
  let c3_i32 : BitVec 32 := 3#32
  let v38 : BitVec 32 := Scalar.subi c3_i32 v12
  let v39 : BitVec 32 := Scalar.addi v37 v38
  let c1_i32_653 : BitVec 32 := 1#32
  let v836 : BitVec 32 := Scalar.muli v39 c1_i32_653
  let v837 : BitVec 32 := Scalar.addi c0_i32_654 v836
  v837.toNat
def k0_off73 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32 : BitVec 32 := 512#32
  let v175 : BitVec 32 := Scalar.muli v29 c512_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c256_i32_133 : BitVec 32 := 256#32
  let v193 : BitVec 32 := Scalar.muli v31 c256_i32_133
  let v194 : BitVec 32 := Scalar.addi v175 v193
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_141 : BitVec 32 := 128#32
  let v208 : BitVec 32 := Scalar.muli v35 c128_i32_141
  let v209 : BitVec 32 := Scalar.addi v194 v208
  let v857 : Index := Scalar.indexCast v209
  let c0_675 : Index := 0#32
  ![v857.toNat, 0]
def k0_off74 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c256_i32_673 : BitVec 32 := 256#32
  let v854 : BitVec 32 := Scalar.muli v31 c256_i32_673
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_674 : BitVec 32 := 128#32
  let v855 : BitVec 32 := Scalar.muli v35 c128_i32_674
  let v856 : BitVec 32 := Scalar.addi v854 v855
  let v860 : Index := Scalar.indexCast v856
  let c0_676 : Index := 0#32
  ![v860.toNat, 0]
def k0_off75 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c512_i32_120 : BitVec 32 := 512#32
  let v176 : BitVec 32 := Scalar.muli v31 c512_i32_120
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32_134 : BitVec 32 := 256#32
  let v195 : BitVec 32 := Scalar.muli v35 c256_i32_134
  let v196 : BitVec 32 := Scalar.addi v176 v195
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_142 : BitVec 32 := 128#32
  let v210 : BitVec 32 := Scalar.muli v29 c128_i32_142
  let v211 : BitVec 32 := Scalar.addi v196 v210
  let v882 : Index := Scalar.indexCast v211
  let c0_695 : Index := 0#32
  ![v882.toNat, 0]
def k0_off76 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c256_i32_693 : BitVec 32 := 256#32
  let v879 : BitVec 32 := Scalar.muli v35 c256_i32_693
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_694 : BitVec 32 := 128#32
  let v880 : BitVec 32 := Scalar.muli v29 c128_i32_694
  let v881 : BitVec 32 := Scalar.addi v879 v880
  let v885 : Index := Scalar.indexCast v881
  let c0_696 : Index := 0#32
  ![v885.toNat, 0]
def k0_off77 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c512_i32_121 : BitVec 32 := 512#32
  let v177 : BitVec 32 := Scalar.muli v35 c512_i32_121
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_135 : BitVec 32 := 256#32
  let v197 : BitVec 32 := Scalar.muli v29 c256_i32_135
  let v198 : BitVec 32 := Scalar.addi v177 v197
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c128_i32_143 : BitVec 32 := 128#32
  let v212 : BitVec 32 := Scalar.muli v31 c128_i32_143
  let v213 : BitVec 32 := Scalar.addi v198 v212
  let v907 : Index := Scalar.indexCast v213
  let c0_715 : Index := 0#32
  ![v907.toNat, 0]
def k0_off78 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_713 : BitVec 32 := 256#32
  let v904 : BitVec 32 := Scalar.muli v29 c256_i32_713
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c128_i32_714 : BitVec 32 := 128#32
  let v905 : BitVec 32 := Scalar.muli v31 c128_i32_714
  let v906 : BitVec 32 := Scalar.addi v904 v905
  let v910 : Index := Scalar.indexCast v906
  let c0_716 : Index := 0#32
  ![v910.toNat, 0]
def k0_off79 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_13 : BitVec 32 := 1#32
  let v32 : BitVec 1 := Scalar.cmpi .eq v12 c1_i32_13
  let c2_i32_14 : BitVec 32 := 2#32
  let v33 : BitVec 1 := Scalar.cmpi .eq v12 c2_i32_14
  let v34 : BitVec 1 := Scalar.ori v32 v33
  let c1_i32_15 : BitVec 32 := 1#32
  let c0_i32_16 : BitVec 32 := 0#32
  let v35 : BitVec 32 := Scalar.select v34 c1_i32_15 c0_i32_16
  let c128_i32_733 : BitVec 32 := 128#32
  let v929 : BitVec 32 := Scalar.muli v35 c128_i32_733
  let v933 : Index := Scalar.indexCast v929
  let c0_735 : Index := 0#32
  ![v933.toNat, 0]
def k0_off80 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c128_i32_752 : BitVec 32 := 128#32
  let v952 : BitVec 32 := Scalar.muli v29 c128_i32_752
  let v956 : Index := Scalar.indexCast v952
  let c0_754 : Index := 0#32
  ![v956.toNat, 0]
def k0_off81 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v30 : BitVec 1 := Scalar.cmpi .sge v12 c2_i32
  let c1_i32_11 : BitVec 32 := 1#32
  let c0_i32_12 : BitVec 32 := 0#32
  let v31 : BitVec 32 := Scalar.select v30 c1_i32_11 c0_i32_12
  let c128_i32_771 : BitVec 32 := 128#32
  let v975 : BitVec 32 := Scalar.muli v31 c128_i32_771
  let v979 : Index := Scalar.indexCast v975
  let c0_773 : Index := 0#32
  ![v979.toNat, 0]
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Places.lean ====
/-
# Which device, which block of rows

The eight devices are the corners of a cube. Every column group of the result crosses the cube's three axes in its own
order; written in that order, the three coordinates of a device are the three binary digits of its `code` in the group,
and every partner and every row block of the kernel is an exclusive or away from it. The closed forms below are checked
against the offsets and device numbers the kernel computes.
-/
module

public import proofs.«01_k».proof.Proof.Gen.KernelIdeal
public import proofs.«01_k».proof.Proof.Gen.KernelIdeal.Skeleton

@[expose] public section

namespace Cert.KProof

open Cert.KernelIdeal Cert.KernelIdeal.Gen
open Idealize.ShloMosaic

/-- The three coordinates of a device: plane, row and column. -/
def coordZ (c : Dev nD) : ℕ := c.val / 4
def coordY (c : Dev nD) : ℕ := if 2 ≤ c.val % 4 then 1 else 0
def coordX (c : Dev nD) : ℕ := if c.val % 4 = 1 ∨ c.val % 4 = 2 then 1 else 0

/-- A device's coordinates as one number, first the axis group `g` crosses first. -/
def code (g : Fin 3) (c : Dev nD) : Fin 8 :=
  match g with
  | 0 => Fin.ofNat 8 (4 * coordZ c + 2 * coordY c + coordX c)
  | 1 => Fin.ofNat 8 (4 * coordY c + 2 * coordX c + coordZ c)
  | 2 => Fin.ofNat 8 (4 * coordX c + 2 * coordZ c + coordY c)

/-- The device at a corner. -/
def corner (z y x : ℕ) : Dev nD := Fin.ofNat 8 (4 * z + 2 * y + (x ^^^ y))

/-- The device whose code in group `g` is `b`. -/
def devOf (g : Fin 3) (b : Fin 8) : Dev nD :=
  match g with
  | 0 => corner (b.val / 4) (b.val / 2 % 2) (b.val % 2)
  | 1 => corner (b.val % 2) (b.val / 4) (b.val / 2 % 2)
  | 2 => corner (b.val / 2 % 2) (b.val % 2) (b.val / 4)

/-- Which of the three exchanges copy `i` belongs to. -/
def stage : Fin 7 → Fin 3 := ![0, 0, 0, 0, 1, 1, 2]

/-- The blocks a receive buffer of an exchange has. -/
def parts : Fin 3 → ℕ := ![4, 2, 1]

/-- The coordinate an exchange crosses, as a binary digit. -/
def mask : Fin 3 → Fin 8 := ![4, 2, 1]

/-- The partner of device `c` in copy `i` of group `g`. -/
def peer (g : Fin 3) (i : Fin 7) (c : Dev nD) : Dev nD := devOf g (code g c ^^^ mask (stage i))

/-- The row block of role `j`: the block copy `j` carries away for `j < 7`, the device's own block for `j = 7`. -/
def row (g : Fin 3) (j : Fin 8) (c : Dev nD) : Fin 8 := code g c ^^^ (7 - j)

theorem devOf_code (g : Fin 3) (c : Dev nD) : devOf g (code g c) = c := by revert g c; decide
theorem code_devOf (g : Fin 3) (b : Fin 8) : code g (devOf g b) = b := by revert g b; decide
theorem peer_peer (g : Fin 3) (i : Fin 7) (c : Dev nD) : peer g i (peer g i c) = c := by revert g i c; decide +kernel
theorem peer_ne (g : Fin 3) (i : Fin 7) (c : Dev nD) : peer g i c ≠ c := by revert g i c; decide +kernel
theorem row_injective (g : Fin 3) (c : Dev nD) : Function.Injective (row g · c) := by revert g c; decide +kernel

/-- First row of a row block. -/
abbrev at128 (k : ℕ) : Fin 2 → ℕ := ![128 * k, 0]
/-- First row of a half. -/
abbrev at512 (k : ℕ) : Fin 2 → ℕ := ![512 * k, 0]

/-- Which block of the receive buffer copy `i` fills. -/
def slot (g : Fin 3) (i : Fin 7) (c : Dev nD) : ℕ := (row g i.castSucc c).val % parts (stage i)

theorem parts_pos (h : Fin 3) : 0 < parts h := by revert h; decide
theorem slot_lt (g : Fin 3) (i : Fin 7) (c : Dev nD) : slot g i c < parts (stage i) := Nat.mod_lt _ (parts_pos _)

/-- The half that is sent away, and the half that is kept. -/
def sentHalf (g : Fin 3) (c : Dev nD) : ℕ := 1 - (code g c).val / 4
def keptHalf (g : Fin 3) (c : Dev nD) : ℕ := (code g c).val / 4

/-- The printed source offsets, by group and copy. -/
def srcOff : Fin 3 → Fin 7 → Dev nD → Fin 2 → ℕ :=
  ![![k0_off8, k0_off10, k0_off12, k0_off14, k0_off40, k0_off52, k0_off68],
    ![k0_off16, k0_off18, k0_off20, k0_off22, k0_off44, k0_off56, k0_off70],
    ![k0_off24, k0_off26, k0_off28, k0_off30, k0_off48, k0_off60, k0_off72]]

/-- The printed destination offsets, by group and copy. -/
def dstOff : Fin 3 → Fin 7 → Dev nD → Fin 2 → ℕ :=
  ![![k0_off7, k0_off9, k0_off11, k0_off13, k0_off39, k0_off51, fun _ => ![0, 0]],
    ![k0_off15, k0_off17, k0_off19, k0_off21, k0_off43, k0_off55, fun _ => ![0, 0]],
    ![k0_off23, k0_off25, k0_off27, k0_off29, k0_off47, k0_off59, fun _ => ![0, 0]]]

/-- The printed destination devices, by group and copy. -/
def dstDev : Fin 3 → Fin 7 → Dev nD → ℕ :=
  ![![k0_dev4, k0_dev5, k0_dev6, k0_dev7, k0_dev16, k0_dev19, k0_dev22],
    ![k0_dev8, k0_dev9, k0_dev10, k0_dev11, k0_dev17, k0_dev20, k0_dev23],
    ![k0_dev12, k0_dev13, k0_dev14, k0_dev15, k0_dev18, k0_dev21, k0_dev24]]

/-- The role of the block that copy `i`'s arrival is added to. -/
def target : Fin 7 → Fin 8 := ![4, 5, 6, 7, 6, 7, 7]

/-- The printed offsets of the block an arrival is added to, by group and copy. -/
def accOff : Fin 3 → Fin 7 → Dev nD → Fin 2 → ℕ :=
  ![![k0_off37, k0_off49, k0_off61, k0_off73, k0_off61, k0_off73, k0_off73],
    ![k0_off41, k0_off53, k0_off63, k0_off75, k0_off63, k0_off75, k0_off75],
    ![k0_off45, k0_off57, k0_off65, k0_off77, k0_off65, k0_off77, k0_off77]]

/-- The printed offsets an arrival is read at, by group and copy. -/
def gotOff : Fin 3 → Fin 7 → Dev nD → Fin 2 → ℕ :=
  ![![k0_off38, k0_off50, k0_off62, k0_off74, k0_off67, k0_off79, fun _ => ![0, 0]],
    ![k0_off42, k0_off54, k0_off64, k0_off76, k0_off69, k0_off80, fun _ => ![0, 0]],
    ![k0_off46, k0_off58, k0_off66, k0_off78, k0_off71, k0_off81, fun _ => ![0, 0]]]

theorem srcOff_eq (g : Fin 3) (i : Fin 7) (c : Dev nD) : srcOff g i c = at128 (row g i.castSucc c) := by
  revert g i c; decide +kernel
theorem dstOff_eq (g : Fin 3) (i : Fin 7) (c : Dev nD) : dstOff g i c = at128 (slot g i c) := by
  revert g i c; decide +kernel
theorem dstDev_eq (g : Fin 3) (i : Fin 7) (c : Dev nD) : dstDev g i c = (peer g i c).val := by
  revert g i c; decide +kernel
theorem accOff_eq (g : Fin 3) (i : Fin 7) (c : Dev nD) : accOff g i c = at128 (row g (target i) c) := by
  revert g i c; decide +kernel
theorem gotOff_eq (g : Fin 3) (i : Fin 7) (c : Dev nD) : gotOff g i c = at128 (slot g i (peer g i c)) := by
  revert g i c; decide +kernel

/-- The printed offsets of the half sent away and of the half kept: in the operand, and in the product. -/
def sentOff : Fin 3 → Fin 2 → Dev nD → Fin 2 → ℕ := ![![k0_off1, k0_off2], ![k0_off3, k0_off4], ![k0_off5, k0_off6]]
def keptOff : Fin 3 → Fin 2 → Dev nD → Fin 2 → ℕ := ![![k0_off31, k0_off32], ![k0_off33, k0_off34], ![k0_off35, k0_off36]]

theorem sentOff_eq (g : Fin 3) (k : Fin 2) (c : Dev nD) : sentOff g k c = at512 (sentHalf g c) := by
  revert g k c; decide +kernel
theorem keptOff_eq (g : Fin 3) (k : Fin 2) (c : Dev nD) : keptOff g k c = at512 (keptHalf g c) := by
  revert g k c; decide +kernel

/-- The printed devices of the three signals. -/
def sigDev : Fin 3 → Dev nD → ℕ := ![k0_dev1, k0_dev2, k0_dev3]
theorem sigDev_eq (g : Fin 3) (c : Dev nD) : sigDev g c = (peer g 0 c).val := by revert g c; decide +kernel

/-- Copy `i` of group `g` crosses the axis that group `g + stage i` crosses first. -/
theorem peer_axis (g : Fin 3) (i : Fin 7) (c : Dev nD) : peer (g + stage i) 0 c = peer g i c := by
  revert g i c; decide +kernel

/-- The block a copy brings is, on the sender, the block it is added to on the receiver. -/
theorem row_peer (g : Fin 3) (i : Fin 7) (c : Dev nD) : row g i.castSucc (peer g i c) = row g (target i) c := by
  revert g i c; decide +kernel
theorem devOf_row7 (g : Fin 3) (c : Dev nD) : devOf g (row g 7 c) = c := by revert g c; decide +kernel

end Cert.KProof
-- ==== Proof.Owns.lean ====
/-
# Owning boxes of a buffer

A matrix held in pieces: boxes of rows and columns, how the pieces of a box come apart and go together again, and what a
load or a store through a box does to what is held.
-/
module

public import Idealize.ShloMosaic.Lib.Pipeline.Launch
public import Idealize.ShloMosaic.Lib.Pipeline.Kit
public import Idealize.ShloMosaic.Lib.Tactic

@[expose] public section

noncomputable section

namespace Cert.KProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Boxes of a matrix -/

/-- The shape of a matrix. -/
abbrev mat (R C : ℕ) : Shape := ⟨2, ![R, C]⟩

/-- The entry at a row and a column. -/
def at2 {R C : ℕ} (i : Fin R) (j : Fin C) : (mat R C).Idx := fun a => match a with | 0 => i | 1 => j

/-- The box of `h` rows from `i` and `w` columns from `j`. -/
abbrev box (R C i j h w : ℕ) (inb : ∀ a, (![i, j] : Fin 2 → ℕ) a + (![h, w] : Fin 2 → ℕ) a ≤ (mat R C).size a) : Rect (mat R C) :=
  Rect.unit (s := mat R C) ![i, j] ![h, w] inb

theorem inb_of {R C i j h w : ℕ} (hi : i + h ≤ R) (hj : j + w ≤ C) :
    ∀ a, (![i, j] : Fin 2 → ℕ) a + (![h, w] : Fin 2 → ℕ) a ≤ (mat R C).size a := fun a => by
  match a with
  | 0 => exact hi
  | 1 => exact hj

theorem mem_box {R C i j h w : ℕ} {inb} (x : (mat R C).Idx) :
    x ∈ (box R C i j h w inb).set ↔ (i ≤ (x 0).val ∧ (x 0).val < i + h) ∧ (j ≤ (x 1).val ∧ (x 1).val < j + w) := by
  rw [LoadRect.mem_set]
  constructor
  · intro hx
    obtain ⟨a, ha, ea⟩ := hx 0
    obtain ⟨b, hb, eb⟩ := hx 1
    simp only [Rect.unit, Matrix.cons_val_zero, Matrix.cons_val_one, Nat.one_mul] at ha ea hb eb
    omega
  · rintro ⟨h0, h1⟩ a
    match a with
    | 0 => exact ⟨(x 0).val - i, (show _ < h by omega), (show _ = i + 1 * _ by omega)⟩
    | 1 => exact ⟨(x 1).val - j, (show _ < w by omega), (show _ = j + 1 * _ by omega)⟩

theorem box_emb {R C i j h w : ℕ} {inb} (x : (mat h w).Idx) (a : Fin 2) :
    ((box R C i j h w inb).emb x a).val = (![i, j] : Fin 2 → ℕ) a + (x a).val := by
  rw [Rect.emb_apply]; show _ + 1 * _ = _; rw [Nat.one_mul]; rfl

/-- Two boxes on disjoint rows or disjoint columns share no entry. -/
theorem box_disjoint {R C i j h w i' j' h' w' : ℕ} {inb inb'}
    (hd : i + h ≤ i' ∨ i' + h' ≤ i ∨ j + w ≤ j' ∨ j' + w' ≤ j) :
    Disjoint (box R C i j h w inb).set (box R C i' j' h' w' inb').set :=
  Finset.disjoint_left.mpr fun x hx hy => by
    rw [mem_box] at hx hy; omega

/-! ## Conjunctions over a finite type -/

section Big
variable {M : Type} [URA M] {I : Type} [Fintype I] [DecidableEq I]

/-- One member of a conjunction taken out, to be put back changed beside the unchanged others. -/
theorem bigSep_pick (a : I) (Φ Ψ : I → sProp M) (h : ∀ b, b ≠ a → Φ b = Ψ b) :
    bigSep Finset.univ Φ ⊢ iprop(Φ a ∗ (Ψ a -∗ bigSep Finset.univ Ψ)) := by
  rw [bigSep_univ_split a (Φ := Φ), bigSep_univ_split a (Φ := Ψ),
    bigSep_congr (s := Finset.univ.erase a) (Φ := Φ) (Ψ := Ψ) fun b hb => h b (Finset.ne_of_mem_erase hb)]
  show iprop(Φ a ∗ bigSep (Finset.univ.erase a) Ψ) ⊢ iprop(Φ a ∗ (Ψ a -∗ (Ψ a ∗ bigSep (Finset.univ.erase a) Ψ)))
  iintro ⟨Ha, Hr⟩
  isplitl [Ha]; · iexact Ha
  iintro Hb
  isplitl [Hb] <;> iassumption

end Big

/-! ## Pieces of a held memref -/

variable {nD : ℕ} {τ : Topo} {sig : RefSig} {Val : EltTy → Type} {U : Type} [URA U] {Ix : Type} [DecidableEq Ix]

local notation "𝕄" => MT nD τ sig Ix Val ℕ U ℕ

section Pieces

variable (c : Thread nD τ) {sp : Space} {sh : Shape} {e : EltTy} (m : Memref sig c.2.kind sp sh e) (q : PosShare TreeShare)
  {T : Type} [Fintype T] [DecidableEq T] (R : Rect sh) (hR : ∀ a, R.stride a = 1)
  (r : T → Rect sh) (hr : ∀ t a, (r t).stride a = 1)
  (hd : ∀ t t', t ≠ t' → Disjoint (r t).set (r t').set) (hcov : ∀ x, x ∈ R.set ↔ ∃ t, x ∈ (r t).set)

omit [DecidableEq T] in
theorem slice_set_biUnion (hcov : ∀ x, x ∈ R.set ↔ ∃ t, x ∈ (r t).set) :
    (m.view.slice R).set = (Finset.univ : Finset T).biUnion fun t => (m.view.slice (r t)).set := by
  ext i
  simp only [View.set_slice, Finset.mem_map, Finset.mem_biUnion, Finset.mem_univ, true_and]
  constructor
  · rintro ⟨x, hx, rfl⟩
    obtain ⟨t, ht⟩ := (hcov x).mp hx
    exact ⟨t, x, ht, rfl⟩
  · rintro ⟨t, x, hx, rfl⟩
    exact ⟨x, (hcov x).mpr ⟨t, hx⟩, rfl⟩

include hd hcov in
omit [DecidableEq T] in
/-- A box comes apart into disjoint boxes that cover it. -/
theorem owns_split (X : R.shape.Idx → Val e) (Y : (t : T) → (r t).shape.Idx → Val e)
    (hY : ∀ t j i, R.emb i = (r t).emb j → Y t j = X i) :
    (owns c (m.slice R hR) q X : sProp 𝕄) ⊢ bigSep Finset.univ fun t => owns c (m.slice (r t) (hr t)) q (Y t) := by
  have key (f : m.view.ty.Contents Val) (hf : (m.slice R hR).view.read Val f = X) :
      (m.view.loc c ↦[(m.view.slice R).set]{q} f : sProp 𝕄) = bigSep Finset.univ fun t => owns c (m.slice (r t) (hr t)) q (Y t) := by
    rw [slice_set_biUnion c m R r hcov, pointsTo_biUnion _ _ fun t _ t' _ htt => by
      rw [View.set_slice, View.set_slice]; exact (Finset.disjoint_map _).mpr (hd t t' htt)]
    refine bigSep_congr fun t _ => ?_
    rw [← owns_slice_read c m q (r t) (hr t) f]
    congr 1
    funext j
    have hj : (r t).emb j ∈ R.set := (hcov _).mpr ⟨t, by rw [← Rect.map_emb_univ]; exact Finset.mem_map_of_mem _ (Finset.mem_univ j)⟩
    rw [← Rect.map_emb_univ, Finset.mem_map] at hj
    obtain ⟨i, -, hi⟩ := hj
    rw [hY t j i hi, ← hf, ← hi]; rfl
  unfold owns
  iintro ⟨%f, %hf, H⟩
  ihave H' := (show ((m.slice R hR).view.loc c ↦[(m.slice R hR).view.set]{q} f : sProp 𝕄) ⊢ _ from (Entails.of_eq (key f hf))) $$ H
  iexact H'

theorem emb_mem (r : Rect sh) (j : r.shape.Idx) : r.emb j ∈ r.set := by
  rw [← Rect.map_emb_univ]; exact Finset.mem_map_of_mem _ (Finset.mem_univ j)

include hd in
/-- Disjoint boxes, each held at some contents: all are parts of one function. -/
theorem exists_glue [∀ e, Nonempty (Val e)] (Y : (t : T) → (r t).shape.Idx → Val e) :
    ∃ X : sh.Idx → Val e, ∀ t j, X ((r t).emb j) = Y t j := by
  classical
  refine ⟨fun x => if h : ∃ t j, (r t).emb j = x then Y h.choose h.choose_spec.choose else Classical.arbitrary _, fun t j => ?_⟩
  have h : ∃ t' j', (r t').emb j' = (r t).emb j := ⟨t, j, rfl⟩
  refine (dif_pos h).trans ?_
  have hs := h.choose_spec.choose_spec
  generalize h.choose_spec.choose = j' at hs ⊢
  generalize h.choose = t' at j' hs ⊢
  by_cases ht : t' = t
  · subst ht; rw [(r t').emb.injective hs]
  · exact absurd (hs ▸ emb_mem (r t') j') (Finset.disjoint_right.mp (hd _ _ ht) (emb_mem (r t) j))

include hd hcov in
/-- Disjoint boxes held at whatever they contain make up the box they cover. -/
theorem owns_join_any [∀ e, Nonempty (Val e)] :
    (bigSep Finset.univ fun t => iprop(∃ Y, owns c (m.slice (r t) (hr t)) q Y))
      ⊢ (iprop(∃ X, owns c (m.slice R hR) q X) : sProp 𝕄) := by
  refine (Idealize.SL.BI.bigSep_exists_pi Finset.univ (fun t Y => owns c (m.slice (r t) (hr t)) q Y)).trans ?_
  iintro ⟨%Y, H⟩
  obtain ⟨X, hX⟩ := exists_glue r hd Y
  ihave H' := (show (bigSep Finset.univ fun t => owns c (m.slice (r t) (hr t)) q (Y t)) ⊢ (_ : sProp 𝕄) from
    (Entails.of_eq (bigSep_congr fun t _ => by rw [← funext (hX t)])).trans (owns_rects_join c m q r hr hd X Finset.univ)) $$ H
  icases H' with ⟨%g, %hg, H⟩
  iexists (m.slice R hR).view.read Val g
  iapply (owns_intro c (m.slice R hR) q g)
  ihave H' := (show (m.view.loc c ↦[Finset.univ.biUnion fun t => (m.view.slice (r t)).set]{q} g : sProp 𝕄) ⊢ _ from
    Entails.of_eq (by rw [← slice_set_biUnion c m R r hcov])) $$ H
  iexact H'

include hd hcov in
/-- A memref held box by box, the boxes covering all of it, at the parts of one function. -/
theorem owns_whole_join [∀ e, Nonempty (Val e)] (hall : R.set = Finset.univ) (X : sh.Idx → Val e) (Y : (t : T) → (r t).shape.Idx → Val e)
    (hY : ∀ t j, Y t j = X ((r t).emb j)) :
    (bigSep Finset.univ fun t => owns c (m.slice (r t) (hr t)) q (Y t)) ⊢ (owns c m q X : sProp 𝕄) := by
  refine (Entails.of_eq (bigSep_congr fun t _ => by rw [funext (hY t)])).trans (owns_of_rects c m q r hr hd ?_ X)
  ext x
  have := hcov x
  rw [hall] at this
  simpa using this

/-- A memref is its slice by the box of everything. -/
theorem owns_full (hall : R.set = Finset.univ) (X : sh.Idx → Val e) :
    (owns c m q X : sProp 𝕄) ⊢ owns c (m.slice R hR) q fun j => X (R.emb j) :=
  (owns_rects c m q (fun _ : Unit => R) (fun _ => hR) (fun _ _ h => absurd rfl h) (by simp [hall]) X).trans
    (Entails.of_eq (bigSep_univ_of_subsingleton ()))

theorem owns_full' [∀ e, Nonempty (Val e)] (hall : R.set = Finset.univ) (X : sh.Idx → Val e) :
    owns c (m.slice R hR) q (fun j => X (R.emb j)) ⊢ (owns c m q X : sProp 𝕄) :=
  (Entails.of_eq (bigSep_univ_of_subsingleton (Φ := fun _ : Unit => owns c (m.slice R hR) q fun j => X (R.emb j)) ()).symm).trans
    (owns_of_rects c m q (fun _ : Unit => R) (fun _ => hR) (fun _ _ h => absurd rfl h) (by simp [hall]) X)

end Pieces

/-! ## Loads and stores -/

section Ops

variable {Λ : Labels} {defs : Defs nD τ sig Val Λ} (𝒱 : Variants) (c : Thread nD τ) (bd : Option 𝒱.V) (E : Set ℕ)
  {s : Shape} {e : EltTy} {α : Type}
  {Q : α → sProp (MT nD τ sig Ix Val ℕ U ℕ)}

/-- A load through a held memref continues at what is held there. -/
theorem own_load {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    owns c m q X ⊢ iprop((owns c m q X -∗ wp frame (wpE defs 𝒱 c bd) E (k fun j => X (r.idx j)) Q)
        -∗ wp frame (wpE defs 𝒱 c bd) E (.op (.load m r hl) k) Q) := by
  unfold owns
  iintro ⟨%f, %hf, H⟩ Hk
  subst hf
  iapply (wp_load 𝒱 c bd E (m := m) (r := r) (S := m.view.set) (f := f) (View.setOn_subset_set _ _)) $$ H
  iintro H
  iapply Hk
  iexists f
  isplitr; · ipureintro; rfl
  iexact H

/-- A load of exactly a held slice. -/
theorem own_load_slice {cs : CoreSpace} {m : Memref sig c.2.kind cs s e} {r : Rect s} {hr : ∀ a, r.stride a = 1} {hl : m.view.LoadsAt r.toLoadRect}
    {k : (r.shape.Idx → Val e) → Prog (TpuEff nD τ sig Val Λ c.2) α} {q : PosShare TreeShare} {X : r.shape.Idx → Val e} :
    owns c (m.slice r hr) q X ⊢ iprop((owns c (m.slice r hr) q X -∗ wp frame (wpE defs 𝒱 c bd) E (k X) Q)
        -∗ wp frame (wpE defs 𝒱 c bd) E (.op (.load m r.toLoadRect hl) k) Q) := by
  unfold owns
  iintro ⟨%f, %hf, H⟩ Hk
  subst hf
  iapply (wp_load_rect 𝒱 c bd E (m := m) (r := r) (S := (m.access r).set) (f := f) (Finset.Subset.refl _)) $$ H
  iintro H
  iapply Hk
  iexists f
  isplitr; · ipureintro; rfl
  iexact H

/-- A store of all of a held slice. -/
theorem own_store {cs : CoreSpace} {m : Memref sig c.2.kind cs s e} {r : Rect s} {hr : ∀ a, r.stride a = 1} {w : r.shape.Idx → Val e}
    {hx : (m.access r).Stores Finset.univ} {hm : Finset.univ = Finset.univ ∨ ∀ a, r.stride a = 1}
    {k : PUnit → Prog (TpuEff nD τ sig Val Λ c.2) α} {X : r.shape.Idx → Val e} :
    owns c (m.slice r hr) fullShare X ⊢ iprop((owns c (m.slice r hr) fullShare w -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (S := (m.access r).set) (f := f) (View.setOn_subset_set _ _)) $$ H
  iintro H
  iapply Hk
  iexists ((m.access r).write Val f w Finset.univ)
  isplitr; · ipureintro; exact View.read_write_univ _ _
  iexact H

end Ops

end Cert.KProof
-- ==== Proof.Values.lean ====
/-
# What the kernel computes, block by block

For any device inputs `X` and `W`, the contents of every 128-row block the kernel stores or sends: the first products,
the partial sums after one, two and three exchanges, and the block of the result.
-/
module

public import proofs.«01_k».proof.Proof.Places
public import proofs.«01_k».proof.Proof.Owns

@[expose] public section

noncomputable section

namespace Cert.KProof

open Cert.KernelIdeal Cert.KernelIdeal.Gen
open Idealize.ShloMosaic

variable {F : FTy → Type} [FloatOps F]

/-- The number of columns of a group. -/
def width : Fin 3 → ℕ
  | 0 => 384
  | 1 => 384
  | 2 => 256

theorem width_le (g : Fin 3) : 384 * g.val + width g ≤ 1024 := by revert g; decide

/-- Sum in the wide type, stored in the narrow one. -/
def addB {s : Shape} (a b : Vec F s .bf16) : Vec F s .bf16 :=
  truncf .bf16 (addf (extf .f32 a bitsLt_bf16_f32) (extf .f32 b bitsLt_bf16_f32)) bitsLt_bf16_f32

/-- Sum in the wide type. -/
def addW {s : Shape} (a b : Vec F s .bf16) : Vec F s .f32 := addf (extf .f32 a bitsLt_bf16_f32) (extf .f32 b bitsLt_bf16_f32)

/-- The product of half of the rows with the columns of a group. -/
def half : (g : Fin 3) → Vec F (mat 512 128) .bf16 → Vec F (mat 128 (width g)) .bf16 → Vec F (mat 512 (width g)) .bf16
  | 0 => k0_pay27
  | 1 => k0_pay28
  | 2 => k0_pay29

variable (X : Dev nD → Vec F S1024x128 .bf16) (W : Dev nD → Vec F S128x1024 .bf16)

/-- The rows of `x` as group `g` keeps them: block `b` holds the rows of the device with code `b`. -/
def xrows (g : Fin 3) (c : Dev nD) : Vec F (mat 1024 128) .bf16 := fun y =>
  X c (at2 ⟨128 * (devOf g (Fin.ofNat 8 ((y 0).val / 128))).val + (y 0).val % 128, by
    have := (devOf g (Fin.ofNat 8 ((y 0).val / 128))).isLt
    have := Nat.mod_lt (y 0).val (show 0 < 128 by decide)
    simp only [nD] at *; omega⟩ (y 1))

/-- One half of those rows. -/
def xhalf (g : Fin 3) (c : Dev nD) (h : Fin 2) : Vec F (mat 512 128) .bf16 := fun y =>
  xrows X g c (at2 ⟨512 * h.val + (y 0).val, by have := h.isLt; have : (y 0).val < 512 := (y 0).isLt; omega⟩ (y 1))

/-- The columns of `w` of a group. -/
def wcols (g : Fin 3) (c : Dev nD) : Vec F (mat 128 (width g)) .bf16 := fun y =>
  W c (at2 (y 0) ⟨384 * g.val + (y 1).val, by have := width_le g; have : (y 1).val < width g := (y 1).isLt; omega⟩)

/-- The device across the axis a group crosses at stage `n`. -/
def across (g : Fin 3) (n : ℕ) (c : Dev nD) : Dev nD := devOf g (code g c ^^^ Fin.ofNat 8 (4 / 2 ^ n))

/-- Block `j` of a group on device `c` after `n` exchanges. -/
def V (g : Fin 3) : ℕ → Fin 8 → Dev nD → Vec F (mat 128 (width g)) .bf16
  | 0, j, c => fun y => half g (xhalf X g c (Fin.ofNat 2 ((row g j c).val / 4))) (wcols W g c)
      (at2 ⟨128 * ((row g j c).val % 4) + (y 0).val, by
        have := Nat.mod_lt (row g j c).val (show 0 < 4 by decide); have : (y 0).val < 128 := (y 0).isLt; omega⟩ (y 1))
  | n + 1, j, c => addB (V g n j c) (V g n (j - Fin.ofNat 8 (4 / 2 ^ n)) (across g n c))

/-- What copy `i` of a group carries away from device `c`. -/
def sent (g : Fin 3) (i : Fin 7) (c : Dev nD) : Vec F (mat 128 (width g)) .bf16 := V X W g (stage i).val i.castSucc c

/-- The columns of the result of a group on device `c`. -/
def outG (g : Fin 3) (c : Dev nD) : Vec F (mat 128 (width g)) .f32 := addW (V X W g 2 7 c) (V X W g 2 6 (across g 2 c))

/-- The result on device `c`. -/
def outV (c : Dev nD) : Vec F (mat 128 1024) .f32 := fun y =>
  outG X W ⟨min 2 ((y 1).val / 384), by omega⟩ c (at2 (y 0) ⟨(y 1).val - 384 * min 2 ((y 1).val / 384), by
    have : (y 1).val < 1024 := (y 1).isLt
    rcases Nat.lt_or_ge (y 1).val 384 with h | h
    · have e : min 2 ((y 1).val / 384) = 0 := by omega
      simp only [e]; simpa [width] using h
    rcases Nat.lt_or_ge (y 1).val 768 with h' | h'
    · have e : min 2 ((y 1).val / 384) = 1 := by omega
      simp only [e]; show _ < 384; omega
    · have e : min 2 ((y 1).val / 384) = 2 := by omega
      simp only [e]; show _ < 256; omega⟩)

theorem across_stage (g : Fin 3) (i : Fin 7) (c : Dev nD) : across g (stage i).val c = peer g i c := by
  revert g i c; decide +kernel

theorem source_role (i : Fin 7) : target i - Fin.ofNat 8 (4 / 2 ^ (stage i).val) = i.castSucc := by revert i; decide

/-- An arrival takes its block one exchange further. -/
theorem V_arrive (g : Fin 3) (i : Fin 7) (c : Dev nD) :
    V X W g ((stage i).val + 1) (target i) c = addB (V X W g (stage i).val (target i) c) (sent X W g i (peer g i c)) := by
  show addB _ (V X W g _ (target i - Fin.ofNat 8 (4 / 2 ^ (stage i).val)) (across g (stage i).val c)) = _
  rw [source_role, across_stage]; rfl

/-- The last arrival makes the result. -/
theorem outG_arrive (g : Fin 3) (c : Dev nD) : outG X W g c = addW (V X W g 2 7 c) (sent X W g 6 (peer g 6 c)) := by
  show _ = addW _ (V X W g 2 6 (peer g 6 c))
  rw [← across_stage g 6 c]; rfl

end Cert.KProof
-- ==== Proof.Sched.lean ====
/-
# The synchronisation schedule

The memory each copy reads and writes, the semaphore cells, what each cell's one round hands over, and the levels that
order the waits.
-/
module

public import proofs.«01_k».proof.Proof.Values

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's rounds beside the exchange's, whose duties are the three neighbours. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Memory -/

/-- The partial sums of a group. -/
def pM : (g : Fin 3) → Memref sig .tc .vmem (mat 1024 (width g)) .bf16
  | 0 => Memref.whole cc0_scratch0
  | 1 => Memref.whole cc0_scratch1
  | 2 => Memref.whole cc0_scratch2

/-- The rows of `x` as a group orders them. -/
def xgM : (g : Fin 3) → Memref sig .tc .vmem (mat 1024 128) .bf16
  | 0 => Memref.whole cc0_scratch3
  | 1 => Memref.whole cc0_scratch4
  | 2 => Memref.whole cc0_scratch5

/-- The receive buffer of a group in an exchange. -/
def rvM : (g s : Fin 3) → Memref sig .tc .vmem (mat (128 * parts s) (width g)) .bf16
  | 0, 0 => Memref.whole cc0_scratch7
  | 0, 1 => Memref.whole cc0_scratch8
  | 0, 2 => Memref.whole cc0_scratch9
  | 1, 0 => Memref.whole cc0_scratch10
  | 1, 1 => Memref.whole cc0_scratch11
  | 1, 2 => Memref.whole cc0_scratch12
  | 2, 0 => Memref.whole cc0_scratch13
  | 2, 1 => Memref.whole cc0_scratch14
  | 2, 2 => Memref.whole cc0_scratch15

abbrev xM : Memref sig .tc .vmem S1024x128 .bf16 := Memref.whole cc0_stg0_0
abbrev wM : Memref sig .tc .vmem S128x1024 .bf16 := Memref.whole cc0_stg1_0
abbrev oM : Memref sig .tc .vmem S128x1024 .f32 := Memref.whole cc0_stg2_0
abbrev wbM : Memref sig .tc .vmem S128x1024 .bf16 := Memref.whole cc0_scratch6

theorem block_inb (g : Fin 3) (r : Fin 8) : ∀ a, (![128 * r.val, 0] : Fin 2 → ℕ) a + (![128, width g] : Fin 2 → ℕ) a ≤ (mat 1024 (width g)).size a :=
  inb_of (by have := r.isLt; omega) (by omega)
theorem slot_inb (g : Fin 3) (i : Fin 7) (n : Dev nD) :
    ∀ a, (![128 * slot g i n, 0] : Fin 2 → ℕ) a + (![128, width g] : Fin 2 → ℕ) a ≤ (mat (128 * parts (stage i)) (width g)).size a :=
  inb_of (by have := slot_lt g i n; omega) (by omega)

/-- A row block of the partial sums. -/
abbrev blockR (g : Fin 3) (r : Fin 8) : Rect (mat 1024 (width g)) := box 1024 (width g) (128 * r.val) 0 128 (width g) (block_inb g r)
abbrev blockM (g : Fin 3) (r : Fin 8) : Memref sig .tc .vmem (mat 128 (width g)) .bf16 := (pM g).slice (blockR g r) fun _ => rfl

/-- The block of a receive buffer that copy `i` from device `n` fills. -/
abbrev slotR (g : Fin 3) (i : Fin 7) (n : Dev nD) : Rect (mat (128 * parts (stage i)) (width g)) :=
  box (128 * parts (stage i)) (width g) (128 * slot g i n) 0 128 (width g) (slot_inb g i n)
abbrev slotM (g : Fin 3) (i : Fin 7) (n : Dev nD) : Memref sig .tc .vmem (mat 128 (width g)) .bf16 := (rvM g (stage i)).slice (slotR g i n) fun _ => rfl

/-! ## Cells -/

abbrev barS : Sem sig := (SemArray.scalar (sig.barrier 0 rfl) : Sems sig S_).sem

/-- The send (`0`) and receive (`1`) semaphore of a copy. -/
def dsem (b : Fin 2) (g : Fin 3) (i : Fin 7) : DmaSem sig :=
  ⟨3 + (21 * b.val + 7 * g.val + i.val), by have := b.isLt; have := g.isLt; have := i.isLt; show _ < 45; omega⟩

/-- Which copy's semaphore it is. -/
def decode (q : DmaSem sig) : Option (Fin 2 × Fin 3 × Fin 7) :=
  if q.val < 3 then none else some (Fin.ofNat 2 ((q.val - 3) / 21), Fin.ofNat 3 ((q.val - 3) / 7), Fin.ofNat 7 (q.val - 3))

theorem decode_dsem (b : Fin 2) (g : Fin 3) (i : Fin 7) : decode (dsem b g i) = some (b, g, i) := by
  revert b g i; decide +kernel

abbrev barCell (c : Dev nD) : GSem nD τ sig := ((c : Thread nD τ), .reg barS)
abbrev xCell (b : Fin 2) (g : Fin 3) (i : Fin 7) (c : Dev nD) : GSem nD τ sig := ((c : Thread nD τ), .dma (dsem b g i))

/-- The credit of one block. -/
def N (g : Fin 3) : ℕ := (blockM g 0).view.dmaCredit

theorem N_block (g : Fin 3) (r : Fin 8) : (blockM g r).view.dmaCredit = N g := by fin_cases g <;> rfl
theorem N_slot (g : Fin 3) (i : Fin 7) (n : Dev nD) : (slotM g i n).view.dmaCredit = N g := by fin_cases g <;> fin_cases i <;> rfl
theorem N_pos (g : Fin 3) : 0 < N g := View.dmaCredit_pos _ (by fin_cases g <;> decide)

/-! ## What the rounds hand over -/

variable (X : Dev nD → Vec F S1024x128 .bf16) (W : Dev nD → Vec F S128x1024 .bf16)

/-- The landing block of a copy from device `n`, whatever it contains. -/
def land (g : Fin 3) (i : Fin 7) (n : Dev nD) : sProp 𝕄 := iprop(∃ Y, ownsTc (peer g i n) (slotM g i n) fullShare Y)

/-- What neighbour `d` hands over at the barrier: where it receives. -/
def barPay (d : Fin 3) (n : Dev nD) : sProp 𝕄 := bigSep Finset.univ fun i : Fin 7 => land (F := F) (d - stage i) i n

/-- A copy's source, back from the send. -/
def sendPay (g : Fin 3) (i : Fin 7) (c : Dev nD) : sProp 𝕄 := iprop(∃ Y, ownsTc c (blockM g (row g i.castSucc c)) fullShare Y)

/-- A copy arrived. -/
def recvPay (g : Fin 3) (i : Fin 7) (c : Dev nD) : sProp 𝕄 :=
  ownsTc c (slotM g i (peer g i c)) fullShare (sent X W g i (peer g i c))

/-- One round: three duties of one unit at a barrier cell, one of a block's credit at a copy's cells. -/
def xRd : Rounds.Schedule (GSem nD τ sig) (Fin 3) 𝕄 where
  duties g r := if r = 0 ∧ g.1.2 = .tc then (match g.2 with
    | .reg _ => Finset.univ
    | .dma q => if (decode q).isSome then {0} else ∅) else ∅
  unitless _ := False
  amount g _ _ := match g.2 with
    | .reg _ => 1
    | .dma q => match decode q with
      | some (_, g, _) => N g
      | none => 1
  payload g _ d := match g.2 with
    | .reg _ => barPay d g.1.1
    | .dma q => match decode q with
      | some (0, x, i) => sendPay x i g.1.1
      | some (1, x, i) => recvPay X W x i g.1.1
      | none => iprop(emp)
  amount_pos g _ _ _ := by
    rcases g with ⟨_, _ | q⟩
    · exact Nat.one_pos
    · dsimp only
      split
      · exact N_pos _
      · exact Nat.one_pos

instance storable_owns (c : Dev nD) {s e} (m : Memref sig .tc .vmem s e) (Y : Vec F s e) :
    BI.Storable (upEmb : UEmb _ 𝕄) (ownsTc c m fullShare Y) := by unfold ownsTc owns; infer_instance
instance storable_land (g : Fin 3) (i : Fin 7) (n : Dev nD) : BI.Storable (upEmb : UEmb _ 𝕄) (land (F := F) g i n) := by
  unfold land; infer_instance
instance storable_barPay (d : Fin 3) (n : Dev nD) : BI.Storable (upEmb : UEmb _ 𝕄) (barPay (F := F) d n) := by
  unfold barPay; infer_instance
instance storable_sendPay (g : Fin 3) (i : Fin 7) (c : Dev nD) : BI.Storable (upEmb : UEmb _ 𝕄) (sendPay (F := F) g i c) := by
  unfold sendPay; infer_instance
instance storable_recvPay (g : Fin 3) (i : Fin 7) (c : Dev nD) : BI.Storable (upEmb : UEmb _ 𝕄) (recvPay X W g i c) := by
  unfold recvPay; infer_instance

instance storable_payload (g : GSem nD τ sig) (r : ℕ) (d : Fin 3) : BI.Storable (upEmb : UEmb _ 𝕄) ((xRd X W).payload g r d) := by
  rcases g with ⟨⟨n, t⟩, _ | q⟩
  · exact storable_barPay d n
  · dsimp only [xRd]
    split <;> infer_instance

section Sched
variable (c : Dev nD) (b : Fin 2) (g : Fin 3) (i : Fin 7)

theorem duties_bar : (xRd X W).duties (barCell c) 0 = Finset.univ := by dsimp only [xRd]; exact if_pos ⟨rfl, rfl⟩
theorem duties_x : (xRd X W).duties (xCell b g i c) 0 = {0} := by
  dsimp only [xRd]; rw [if_pos ⟨rfl, rfl⟩, decode_dsem]; rfl
theorem duties_later (s : GSem nD τ sig) : ∀ r, 1 ≤ r → (xRd X W).duties s r = ∅ :=
  fun r hr => by dsimp only [xRd]; exact if_neg fun h => by omega

theorem amount_bar (d : Fin 3) : (xRd X W).amount (barCell c) 0 d = 1 := rfl
theorem amount_x (d : Fin 3) : (xRd X W).amount (xCell b g i c) 0 d = N g := by dsimp only [xRd]; rw [decode_dsem]

theorem expect_bar : (xRd X W).expect (barCell c) 0 = 3 := by
  unfold Schedule.expect Schedule.amountOf
  rw [duties_bar, Finset.sum_congr rfl fun d _ => amount_bar X W c d]; rfl
theorem expect_x : (xRd X W).expect (xCell b g i c) 0 = N g := by
  unfold Schedule.expect Schedule.amountOf; rw [duties_x, Finset.sum_singleton, amount_x]

theorem payload_bar (d : Fin 3) : (xRd X W).payload (barCell c) 0 d = barPay d c := rfl
theorem payload_send (d : Fin 3) : (xRd X W).payload (xCell 0 g i c) 0 d = sendPay g i c := by dsimp only [xRd]; rw [decode_dsem]
theorem payload_recv (d : Fin 3) : (xRd X W).payload (xCell 1 g i c) 0 d = recvPay X W g i c := by dsimp only [xRd]; rw [decode_dsem]

theorem rest_bar : bigSep ((xRd X W).duties (barCell c) 0 \ ∅) (fun d => (xRd X W).payload (barCell c) 0 d)
    = bigSep Finset.univ fun d => barPay d c := by rw [Finset.sdiff_empty, duties_bar]; rfl
theorem rest_send : bigSep ((xRd X W).duties (xCell 0 g i c) 0 \ ∅) (fun d => (xRd X W).payload (xCell 0 g i c) 0 d) = sendPay g i c := by
  rw [Finset.sdiff_empty, duties_x, bigSep_singleton, payload_send]
theorem rest_recv : bigSep ((xRd X W).duties (xCell 1 g i c) 0 \ ∅) (fun d => (xRd X W).payload (xCell 1 g i c) 0 d) = recvPay X W g i c := by
  rw [Finset.sdiff_empty, duties_x, bigSep_singleton, payload_recv]

end Sched

/-! ## Levels -/

def L (s : GSem nD τ sig) : Finset Unit := if s.1.2 = .tc then {()} else ∅
theorem L_of_ne (s : GSem nD τ sig) (h : s.1.2 ≠ .tc) : L s = ∅ := if_neg h
theorem L_tc (c : Dev nD) (sm : SemLoc sig) : L ((c : Thread nD τ), sm) = {()} := if_pos rfl

/-- Staging and send cells first, then the barrier, then the arrivals by exchange. -/
def lv (s : GSem nD τ sig) (_ : Unit) : ℕ := match s.2 with
  | .reg _ => 1
  | .dma q => match decode q with
    | some (1, _, i) => 2 + (stage i).val
    | _ => 0

theorem lv_recv (g : Fin 3) (i : Fin 7) (c : Dev nD) : lv (xCell 1 g i c) () = 2 + (stage i).val := by
  dsimp only [lv]; rw [decode_dsem]; rfl
theorem lv_send (g : Fin 3) (i : Fin 7) (c : Dev nD) : lv (xCell 0 g i c) () = 0 := by dsimp only [lv]; rw [decode_dsem]; rfl

end Cert.KProof
-- ==== Proof.State.lean ====
/-
# Where a device stands

The state of one device between two operations: which blocks of the partial sums it holds and after how many exchanges,
how far each copy is, what is written of the result — and the resources that go with it.
-/
module

public import proofs.«01_k».proof.Proof.Sched

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where a device stands. -/
structure Stand where
  /-- The neighbours signalled. -/
  told : Fin 3 → Bool
  /-- Whether the barrier is passed. -/
  met : Bool
  /-- The halves of the partial sums not computed yet. -/
  raw : Fin 3 × Fin 2 → Bool
  /-- The blocks held: `1 + n` after `n` exchanges, `0` with contents of no account. -/
  blk : Fin 3 × Fin 8 → Option ℕ
  /-- The copies: closed, ready, under way, sent, arrived. -/
  ph : Fin 3 × Fin 7 → Fin 5
  /-- The columns of the result written. -/
  out : Fin 3 → Bool

/-- What an operation does to it. -/
inductive Ev where
  | tell (d : Fin 3)
  | meet
  | prod (g : Fin 3) (h : Fin 2)
  | send (g : Fin 3) (i : Fin 7)
  | freed (g : Fin 3) (i : Fin 7)
  | came (g : Fin 3) (i : Fin 7)
  | acc (g : Fin 3) (i : Fin 7)
  | fin (g : Fin 3)

/-- Block `t` of the half `h`. -/
def inHalf (h : Fin 2) (t : Fin 4) : Fin 8 := ⟨4 * h.val + t.val, by have := h.isLt; have := t.isLt; omega⟩

/-- A block comes or goes. -/
def Stand.put (σ : Stand) (x : Fin 3 × Fin 8) (v : Option ℕ) : Stand := { σ with blk := Function.update σ.blk x v }

def Stand.step (σ : Stand) : Ev → Stand
  | .tell d => { σ with told := Function.update σ.told d true }
  | .meet => { σ with met := true, ph := fun _ => 1 }
  | .prod g h => (((({ σ with raw := Function.update σ.raw (g, h) false } : Stand).put (g, inHalf h 0) (some 1)).put
      (g, inHalf h 1) (some 1)).put (g, inHalf h 2) (some 1)).put (g, inHalf h 3) (some 1)
  | .send g i => { σ with blk := Function.update σ.blk (g, i.castSucc) none, ph := Function.update σ.ph (g, i) 2 }
  | .freed g i => { σ with blk := Function.update σ.blk (g, i.castSucc) (some 0), ph := Function.update σ.ph (g, i) 3 }
  | .came g i => { σ with ph := Function.update σ.ph (g, i) 4 }
  | .acc g i => { σ with blk := Function.update σ.blk (g, target i) (some ((stage i).val + 1 + 1)) }
  | .fin g => { σ with out := Function.update σ.out g true }

def start : Stand := ⟨fun _ => false, false, fun _ => true, fun _ => none, fun _ => 0, fun _ => false⟩

/-! ## The resources -/

variable (X : Dev nD → Vec F S1024x128 .bf16) (W : Dev nD → Vec F S128x1024 .bf16)

/-- The half `h` of the rows: sent away, kept. -/
def hf (h : Fin 2) (g : Fin 3) (c : Dev nD) : ℕ := match h with
  | 0 => sentHalf g c
  | 1 => keptHalf g c

theorem hf_lt (h : Fin 2) (g : Fin 3) (c : Dev nD) : hf h g c < 2 := by revert h g c; decide

abbrev halfR (g : Fin 3) (k : ℕ) (hk : k < 2) : Rect (mat 1024 (width g)) :=
  box 1024 (width g) (512 * k) 0 512 (width g) (inb_of (by omega) (by omega))
abbrev halfM (g : Fin 3) (k : ℕ) (hk : k < 2) : Memref sig .tc .vmem (mat 512 (width g)) .bf16 := (pM g).slice (halfR g k hk) fun _ => rfl

theorem out_inb (g : Fin 3) : ∀ a, (![0, 384 * g.val] : Fin 2 → ℕ) a + (![128, width g] : Fin 2 → ℕ) a ≤ (mat 128 1024).size a :=
  inb_of (by omega) (width_le g)
abbrev outR (g : Fin 3) : Rect (mat 128 1024) := box 128 1024 0 (384 * g.val) 128 (width g) (out_inb g)
abbrev outM (g : Fin 3) : Memref sig .tc .vmem (mat 128 (width g)) .f32 := oM.slice (outR g) fun _ => rfl

/-- The cells of the exchange. -/
abbrev CI : Type := Dev nD × Option (Fin 2 × Fin 3 × Fin 7)
def cellAt : CI → GSem nD τ sig
  | (c, none) => barCell c
  | (c, some (b, g, i)) => xCell b g i c

/-- What never changes: the cells' invariants, that every cell has reached its round, the levels. -/
def records : sProp 𝕄 :=
  iprop((bigSep Finset.univ fun x : CI => iprop(∃ κ : ℕ, cellInv ER (xRd X W) κ (cellAt x)))
    ∗ (bigSep Finset.univ fun x : CI => reached ER (cellAt x) 0) ∗ levAts L lv)

instance records_persistent : BI.Persistent (records X W) := by unfold records; infer_instance

/-- What a device still owes. -/
def owed (σ : Stand) (c : Dev nD) : CellTallies nD τ sig Unit :=
  (∑ x : Fin 3 × Fin 7, if σ.ph x ≤ 1 then tallyAt (xCell 1 x.1 x.2 (peer x.1 x.2 c)) () (N x.1) else 0)
    + ∑ d : Fin 3, if σ.told d then 0 else tallyAt (barCell (peer d 0 c)) () 1

def tellRes (c : Dev nD) (d : Fin 3) : Bool → sProp 𝕄
  | false => iprop(dutyTok ER (barCell (peer d 0 c)) 0 d ∗ barPay d (peer d 0 c))
  | true => iprop(emp)

def meetRes (c : Dev nD) : Bool → sProp 𝕄
  | false => iprop(atPos ER (barCell c) 0 ∅ 0 ∗ cred (tallyAt (barCell c) () 3))
  | true => semVal (barCell c) 0

def rawRes (c : Dev nD) (x : Fin 3 × Fin 2) : Bool → sProp 𝕄
  | true => iprop(∃ Y, ownsTc c (halfM x.1 (hf x.2 x.1 c) (hf_lt _ _ _)) fullShare Y)
  | false => iprop(emp)

def blkRes (c : Dev nD) (x : Fin 3 × Fin 8) : Option ℕ → sProp 𝕄
  | none => iprop(emp)
  | some 0 => iprop(∃ Y, ownsTc c (blockM x.1 (row x.1 x.2 c)) fullShare Y)
  | some (n + 1) => ownsTc c (blockM x.1 (row x.1 x.2 c)) fullShare (V X W x.1 n x.2 c)

/-- The tokens a copy starts with. -/
def kit (c : Dev nD) (g : Fin 3) (i : Fin 7) : sProp 𝕄 :=
  iprop(dutyTok ER (xCell 0 g i c) 0 0 ∗ dutyTok ER (xCell 1 g i (peer g i c)) 0 0
    ∗ atPos ER (xCell 0 g i c) 0 ∅ 0 ∗ atPos ER (xCell 1 g i c) 0 ∅ 0 ∗ cred (tallyAt (xCell 1 g i c) () (N g)))

def phRes (c : Dev nD) (x : Fin 3 × Fin 7) : Fin 5 → sProp 𝕄
  | 0 => kit c x.1 x.2
  | 1 => iprop(kit c x.1 x.2 ∗ land x.1 x.2 c)
  | 2 => iprop(cred (tallyAt (xCell 0 x.1 x.2 c) () (N x.1)) ∗ atPos ER (xCell 0 x.1 x.2 c) 0 ∅ 0
      ∗ atPos ER (xCell 1 x.1 x.2 c) 0 ∅ 0 ∗ cred (tallyAt (xCell 1 x.1 x.2 c) () (N x.1)))
  | 3 => iprop(semVal (xCell 0 x.1 x.2 c) 0 ∗ atPos ER (xCell 1 x.1 x.2 c) 0 ∅ 0 ∗ cred (tallyAt (xCell 1 x.1 x.2 c) () (N x.1)))
  | 4 => iprop(semVal (xCell 0 x.1 x.2 c) 0 ∗ semVal (xCell 1 x.1 x.2 c) 0 ∗ recvPay X W x.1 x.2 c)

def outRes (c : Dev nD) (g : Fin 3) : Bool → sProp 𝕄
  | false => iprop(∃ Y, ownsTc c (outM g) fullShare Y)
  | true => ownsTc c (outM g) fullShare (outG X W g c)

/-- All that goes with where a device stands. -/
def At (c : Dev nD) (σ : Stand) : sProp 𝕄 :=
  iprop(records X W ∗ (∃ Ws, owes (c : Thread nD τ) (owed σ c) Ws)
    ∗ (bigSep Finset.univ fun d => tellRes c d (σ.told d)) ∗ meetRes c σ.met
    ∗ (bigSep Finset.univ fun x => rawRes c x (σ.raw x)) ∗ (bigSep Finset.univ fun x => blkRes X W c x (σ.blk x))
    ∗ (bigSep Finset.univ fun x => phRes X W c x (σ.ph x)) ∗ (bigSep Finset.univ fun g => outRes X W c g (σ.out g)))

/-! ## Changing one member -/

theorem bigSep_at {M : Type} [URA M] {I β : Type} [Fintype I] [DecidableEq I] (Φ : I → β → sProp M) (f : I → β) (a : I) (v : β) :
    (bigSep Finset.univ fun x => Φ x (f x))
      ⊢ iprop(Φ a (f a) ∗ (Φ a v -∗ bigSep Finset.univ fun x => Φ x (Function.update f a v x))) := by
  have := bigSep_pick a (fun x => Φ x (f x)) (fun x => Φ x (Function.update f a v x))
    fun b hb => by rw [Function.update_of_ne hb]
  simpa only [Function.update_self] using this

theorem bigSep_look {M : Type} [URA M] {I : Type} [Fintype I] [DecidableEq I] (Φ : I → sProp M) (a : I) :
    bigSep Finset.univ Φ ⊢ iprop(Φ a ∗ (Φ a -∗ bigSep Finset.univ Φ)) :=
  bigSep_pick a Φ Φ fun _ _ => rfl

/-! ## What is owed -/

theorem sum_pos {I : Type} (s : Finset I) (f : I → CellTallies nD τ sig Unit) (g : GSem nD τ sig) (u : Unit)
    (h : 0 < (∑ x ∈ s, f x) g u) : ∃ x ∈ s, 0 < f x g u := by
  classical
  induction s using Finset.induction_on with
  | empty => exact absurd h (Nat.lt_irrefl 0)
  | insert a s ha ih =>
    rw [Finset.sum_insert ha, Pi.add_apply, Finsupp.add_apply] at h
    rcases Nat.eq_zero_or_pos (f a g u) with h0 | h0
    · obtain ⟨x, hx, hp⟩ := ih (by omega)
      exact ⟨x, Finset.mem_insert_of_mem hx, hp⟩
    · exact ⟨a, Finset.mem_insert_self _ _, h0⟩

theorem tally_pos {cell g : GSem nD τ sig} {n : ℕ} {u : Unit} (h : 0 < (tallyAt cell () n : CellTallies nD τ sig Unit) g u) : g = cell := by
  rw [tallyAt_apply] at h
  by_contra hn
  rw [if_neg fun h' => hn h'.1] at h
  exact Nat.lt_irrefl 0 h

theorem owed_pos {σ : Stand} {c : Dev nD} {s : GSem nD τ sig} {u : Unit} (h : 0 < owed σ c s u) :
    (∃ x : Fin 3 × Fin 7, σ.ph x ≤ 1 ∧ s = xCell 1 x.1 x.2 (peer x.1 x.2 c)) ∨ ∃ d, σ.told d = false ∧ s = barCell (peer d 0 c) := by
  unfold owed at h
  rw [Pi.add_apply, Finsupp.add_apply] at h
  rcases Nat.eq_zero_or_pos ((∑ x : Fin 3 × Fin 7, if σ.ph x ≤ 1 then tallyAt (xCell 1 x.1 x.2 (peer x.1 x.2 c)) () (N x.1) else 0 :
      CellTallies nD τ sig Unit) s u) with h0 | h0
  · obtain ⟨d, -, hd⟩ := sum_pos _ _ _ _ (show 0 < (∑ d : Fin 3, if σ.told d then 0 else tallyAt (barCell (peer d 0 c)) () 1 :
      CellTallies nD τ sig Unit) s u by omega)
    right
    refine ⟨d, ?_⟩
    cases ht : σ.told d
    · rw [ht] at hd; exact ⟨rfl, tally_pos hd⟩
    · rw [ht] at hd; exact absurd hd (Nat.lt_irrefl 0)
  · obtain ⟨x, -, hx⟩ := sum_pos _ _ _ _ h0
    left
    refine ⟨x, ?_⟩
    by_cases hp : σ.ph x ≤ 1
    · rw [if_pos hp] at hx; exact ⟨hp, tally_pos hx⟩
    · rw [if_neg hp] at hx; exact absurd hx (Nat.lt_irrefl 0)

/-- A wait is allowed below everything owed. -/
theorem mayWait (σ : Stand) (c : Dev nD) (sm : SemLoc sig) (l : ℕ) (hl : lv ((c : Thread nD τ), sm) () = l)
    (h : ∀ x : Fin 3 × Fin 7, σ.ph x ≤ 1 → l < 2 + (stage x.2).val) (h' : ∀ d, σ.told d = false → l < 1) :
    (levAts L lv : sProp 𝕄) ⊢ MayWait (c : Thread nD τ) sm () (owed σ c) :=
  Pipeline.mayWait_of_levAts (by rw [L_tc]; exact Finset.mem_singleton_self _) fun s u hs => by
    rcases owed_pos hs with ⟨x, hx, rfl⟩ | ⟨d, hd, rfl⟩
    · refine ⟨by rw [L_tc]; exact Finset.mem_singleton_self _, ?_⟩
      show lv _ () < lv _ ()
      rw [hl, lv_recv]; exact h x hx
    · refine ⟨by rw [L_tc]; exact Finset.mem_singleton_self _, ?_⟩
      show lv _ () < lv _ ()
      rw [hl]; exact h' d hd

theorem sum_update {I β : Type} [Fintype I] [DecidableEq I] {A : Type} [AddCommMonoid A] (φ : I → β → A) (f : I → β) (a : I) (v : β) (hv : φ a v = 0) :
    (∑ x, φ x (f x)) = (∑ x, φ x (Function.update f a v x)) + φ a (f a) := by
  rw [← Finset.add_sum_erase Finset.univ (fun x => φ x (f x)) (Finset.mem_univ a),
    ← Finset.add_sum_erase Finset.univ (fun x => φ x (Function.update f a v x)) (Finset.mem_univ a), Function.update_self, hv, zero_add, add_comm]
  congr 1
  exact Finset.sum_congr rfl fun b hb => by rw [Function.update_of_ne (Finset.ne_of_mem_erase hb)]

theorem owed_send (σ : Stand) (c : Dev nD) (g : Fin 3) (i : Fin 7) (h : σ.ph (g, i) = 1) :
    owed σ c = owed (σ.step (.send g i)) c + tallyAt (xCell 1 g i (peer g i c)) () (N g) := by
  unfold owed Stand.step
  dsimp only
  rw [sum_update (fun (x : Fin 3 × Fin 7) (p : Fin 5) =>
    if p ≤ 1 then (tallyAt (xCell 1 x.1 x.2 (peer x.1 x.2 c)) () (N x.1) : CellTallies nD τ sig Unit) else 0) σ.ph (g, i) 2 (if_neg (by decide)), h]
  rw [if_pos (by decide)]
  exact add_right_comm _ _ _

theorem owed_tell (σ : Stand) (c : Dev nD) (d : Fin 3) (h : σ.told d = false) :
    owed σ c = owed (σ.step (.tell d)) c + tallyAt (barCell (peer d 0 c)) () 1 := by
  unfold owed Stand.step
  dsimp only
  rw [sum_update (fun (d : Fin 3) (p : Bool) =>
    if p then 0 else (tallyAt (barCell (peer d 0 c)) () 1 : CellTallies nD τ sig Unit)) σ.told d true (if_pos rfl), h]
  rw [if_neg (by decide)]
  exact (add_assoc _ _ _).symm

theorem owed_same {σ σ' : Stand} (c : Dev nD) (h : ∀ x, σ.ph x ≤ 1 ↔ σ'.ph x ≤ 1) (h' : σ.told = σ'.told) : owed σ c = owed σ' c := by
  unfold owed; rw [h']
  congr 1
  exact Finset.sum_congr rfl fun x _ => by simp only [h x]

end Cert.KProof
-- ==== Proof.Steps.lean ====
/-
# One operation at a time

For every operation of the exchange, what it does to where the device stands.
-/
module

public import proofs.«01_k».proof.Proof.State

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's program from here. -/
abbrev run (c : Dev nD) {α : Type} (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

variable (X : Dev nD → Vec F S1024x128 .bf16) (W : Dev nD → Vec F S128x1024 .bf16)

theorem member {I : Type} [Fintype I] [DecidableEq I] (Φ : I → sProp 𝕄) (x : I) : bigSep Finset.univ Φ ⊢ (Φ x : sProp 𝕄) :=
  bigSep_elim (Finset.mem_univ x)

theorem records_inv (x : CI) : records X W ⊢ (iprop(∃ κ : ℕ, cellInv ER (xRd X W) κ (cellAt x)) : sProp 𝕄) := by
  unfold records; iintro ⟨H, -, -⟩
  iapply (member (fun x : CI => iprop(∃ κ : ℕ, cellInv ER (xRd X W) κ (cellAt x))) x); iexact H
theorem records_reached (x : CI) : records X W ⊢ (reached ER (cellAt x) 0 : sProp 𝕄) := by
  unfold records; iintro ⟨-, H, -⟩
  iapply (member (fun x : CI => (reached ER (cellAt x) 0 : sProp 𝕄)) x); iexact H
theorem records_levels : records X W ⊢ (levAts L lv : sProp 𝕄) := by
  unfold records; iintro ⟨-, -, H⟩; iexact H

variable {X W}
variable {c : Dev nD} {σ : Stand} {R : sProp (MT nD τ sig Unit (Elt F) ℕ UU ℕ)} {α : Type}
  {Q : α → sProp (MT nD τ sig Unit (Elt F) ℕ UU ℕ)}

/-! ## One member of where a device stands -/

theorem at_blk (x : Fin 3 × Fin 8) (v : Option ℕ) : At X W c σ
    ⊢ iprop(blkRes X W c x (σ.blk x) ∗ (blkRes X W c x v -∗ At X W c { σ with blk := Function.update σ.blk x v })) := by
  unfold At
  iintro ⟨Hr, Ho, Ht, Hm, Hraw, Hb, Hp, Hout⟩
  ihave Hb' := (bigSep_at (blkRes X W c) σ.blk x v) $$ Hb
  icases Hb' with ⟨Hb, Hback⟩
  isplitl [Hb]; · iexact Hb
  iintro Hb
  ihave Hb := Hback $$ Hb
  isplitl [Hr]; · iexact Hr
  isplitl [Ho]; · iexact Ho
  isplitl [Ht]; · iexact Ht
  isplitl [Hm]; · iexact Hm
  isplitl [Hraw]; · iexact Hraw
  isplitl [Hb]; · iexact Hb
  isplitl [Hp] <;> iassumption

theorem at_raw (x : Fin 3 × Fin 2) (v : Bool) : At X W c σ
    ⊢ iprop(rawRes c x (σ.raw x) ∗ (rawRes c x v -∗ At X W c { σ with raw := Function.update σ.raw x v })) := by
  unfold At
  iintro ⟨Hr, Ho, Ht, Hm, Hraw, Hb, Hp, Hout⟩
  ihave Hb' := (bigSep_at (rawRes (F := F) c) σ.raw x v) $$ Hraw
  icases Hb' with ⟨Hraw, Hback⟩
  isplitl [Hraw]; · iexact Hraw
  iintro Hraw
  ihave Hraw := Hback $$ Hraw
  isplitl [Hr]; · iexact Hr
  isplitl [Ho]; · iexact Ho
  isplitl [Ht]; · iexact Ht
  isplitl [Hm]; · iexact Hm
  isplitl [Hraw]; · iexact Hraw
  isplitl [Hb]; · iexact Hb
  isplitl [Hp] <;> iassumption

theorem at_out (x : Fin 3) (v : Bool) : At X W c σ
    ⊢ iprop(outRes X W c x (σ.out x) ∗ (outRes X W c x v -∗ At X W c { σ with out := Function.update σ.out x v })) := by
  unfold At
  iintro ⟨Hr, Ho, Ht, Hm, Hraw, Hb, Hp, Hout⟩
  ihave Hb' := (bigSep_at (outRes X W c) σ.out x v) $$ Hout
  icases Hb' with ⟨Hout, Hback⟩
  isplitl [Hout]; · iexact Hout
  iintro Hout
  ihave Hout := Hback $$ Hout
  isplitl [Hr]; · iexact Hr
  isplitl [Ho]; · iexact Ho
  isplitl [Ht]; · iexact Ht
  isplitl [Hm]; · iexact Hm
  isplitl [Hraw]; · iexact Hraw
  isplitl [Hb]; · iexact Hb
  isplitl [Hp] <;> iassumption

/-- A copy, with what is owed. -/
theorem at_ph (x : Fin 3 × Fin 7) (v : Fin 5) : At X W c σ
    ⊢ iprop(records X W ∗ (∃ Ws, owes (c : Thread nD τ) (owed σ c) Ws) ∗ phRes X W c x (σ.ph x)
      ∗ ((∃ Ws, owes (c : Thread nD τ) (owed { σ with ph := Function.update σ.ph x v } c) Ws) -∗ phRes X W c x v
        -∗ At X W c { σ with ph := Function.update σ.ph x v })) := by
  unfold At
  iintro ⟨#Hr, Ho, Ht, Hm, Hraw, Hb, Hp, Hout⟩
  ihave Hb' := (bigSep_at (phRes X W c) σ.ph x v) $$ Hp
  icases Hb' with ⟨Hp, Hback⟩
  isplitr; · iexact Hr
  isplitl [Ho]; · iexact Ho
  isplitl [Hp]; · iexact Hp
  iintro Ho Hp
  ihave Hp := Hback $$ Hp
  isplitr; · iexact Hr
  isplitl [Ho]; · iexact Ho
  isplitl [Ht]; · iexact Ht
  isplitl [Hm]; · iexact Hm
  isplitl [Hraw]; · iexact Hraw
  isplitl [Hb]; · iexact Hb
  isplitl [Hp] <;> iassumption

theorem at_blk_look (x : Fin 3 × Fin 8) : At X W c σ ⊢ iprop(blkRes X W c x (σ.blk x) ∗ (blkRes X W c x (σ.blk x) -∗ At X W c σ)) := by
  have := at_blk (X := X) (W := W) (c := c) (σ := σ) x (σ.blk x)
  rwa [Function.update_eq_self] at this
theorem at_raw_look (x : Fin 3 × Fin 2) : At X W c σ ⊢ iprop(rawRes c x (σ.raw x) ∗ (rawRes c x (σ.raw x) -∗ At X W c σ)) := by
  have := at_raw (X := X) (W := W) (c := c) (σ := σ) x (σ.raw x)
  rwa [Function.update_eq_self] at this
theorem at_out_look (x : Fin 3) : At X W c σ ⊢ iprop(outRes X W c x (σ.out x) ∗ (outRes X W c x (σ.out x) -∗ At X W c σ)) := by
  have := at_out (X := X) (W := W) (c := c) (σ := σ) x (σ.out x)
  rwa [Function.update_eq_self] at this
theorem at_ph_look (x : Fin 3 × Fin 7) : At X W c σ ⊢ iprop(phRes X W c x (σ.ph x) ∗ (phRes X W c x (σ.ph x) -∗ At X W c σ)) := by
  have := at_ph (X := X) (W := W) (c := c) (σ := σ) x (σ.ph x)
  rw [Function.update_eq_self] at this
  refine this.trans ?_
  iintro ⟨-, Ho, Hp, Hback⟩
  isplitl [Hp]; · iexact Hp
  iapply Hback; iexact Ho

/-! ## Loads and stores -/

theorem blk_held (g : Fin 3) (j : Fin 8) (n : ℕ) (inb) : (blkRes X W c (g, j) (some (n + 1)) : sProp 𝕄)
    = owns (c : Thread nD τ) ((pM g).slice (Rect.unit (s := mat 1024 (width g)) (at128 (row g j c).val) ![128, width g] inb) fun _ => rfl)
      fullShare (V X W g n j c) := rfl

/-- Reading a block. -/
theorem step_load {g : Fin 3} {j : Fin 8} {n : ℕ} {o : Fin 2 → ℕ} (ho : o = at128 (row g j c).val) (hσ : σ.blk (g, j) = some (n + 1))
    {inb : ∀ a, o a + (![128, width g] : Fin 2 → ℕ) a ≤ (mat 1024 (width g)).size a}
    {hl : (pM g).view.LoadsAt (Rect.unit (s := mat 1024 (width g)) o ![128, width g] inb).toLoadRect}
    {k : Vec F (mat 128 (width g)) .bf16 → Prog (TpuEff nD τ sig (Elt F) Λ₀ .tc) α}
    (hk : iprop(R ∗ At X W c σ) ⊢ run c (k (V X W g n j c)) Q) :
    iprop(R ∗ At X W c σ) ⊢ run c (.op (.load (pM g) (Rect.unit (s := mat 1024 (width g)) o ![128, width g] inb).toLoadRect hl) k) Q := by
  subst ho
  iintro ⟨HR, HA⟩
  ihave HA' := (at_blk_look (g, j)) $$ HA
  rw [hσ, blk_held g j n inb]
  icases HA' with ⟨Hb, Hback⟩
  iapply (own_load_slice 𝒱₀ (c : Thread nD τ) none Set.univ (m := pM g) (hr := fun _ => rfl) (X := V X W g n j c)) $$ [Hb]
  · iexact Hb
  iintro Hb
  iapply hk
  isplitl [HR]; · iexact HR
  iapply Hback; iexact Hb

/-- Reading what arrived. -/
theorem step_got {g : Fin 3} {i : Fin 7} {o : Fin 2 → ℕ} (ho : o = at128 (slot g i (peer g i c))) (hσ : σ.ph (g, i) = 4)
    {inb : ∀ a, o a + (![128, width g] : Fin 2 → ℕ) a ≤ (mat (128 * parts (stage i)) (width g)).size a}
    {hl : (rvM g (stage i)).view.LoadsAt (Rect.unit (s := mat (128 * parts (stage i)) (width g)) o ![128, width g] inb).toLoadRect}
    {k : Vec F (mat 128 (width g)) .bf16 → Prog (TpuEff nD τ sig (Elt F) Λ₀ .tc) α}
    (hk : iprop(R ∗ At X W c σ) ⊢ run c (k (sent X W g i (peer g i c))) Q) :
    iprop(R ∗ At X W c σ) ⊢ run c (.op (.load (rvM g (stage i))
      (Rect.unit (s := mat (128 * parts (stage i)) (width g)) o ![128, width g] inb).toLoadRect hl) k) Q := by
  subst ho
  iintro ⟨HR, HA⟩
  ihave HA' := (at_ph_look (g, i)) $$ HA
  rw [hσ]
  unfold phRes recvPay
  icases HA' with ⟨⟨Hs, Hv, Hb⟩, Hback⟩
  iapply (own_load_slice 𝒱₀ (c : Thread nD τ) none Set.univ (m := rvM g (stage i)) (hr := fun _ => rfl) (X := sent X W g i (peer g i c))) $$ [Hb]
  · iexact Hb
  iintro Hb
  iapply hk
  isplitl [HR]; · iexact HR
  iapply Hback
  isplitl [Hs]; · iexact Hs
  isplitl [Hv]; · iexact Hv
  iexact Hb

/-- Adding an arrival to its block. -/
theorem step_acc {g : Fin 3} {i : Fin 7} {o : Fin 2 → ℕ} (ho : o = at128 (row g (target i) c).val)
    (hσ : σ.blk (g, target i) = some ((stage i).val + 1)) {v : Vec F (mat 128 (width g)) .bf16}
    (hv : v = addB (V X W g (stage i).val (target i) c) (sent X W g i (peer g i c)))
    {inb : ∀ a, o a + (![128, width g] : Fin 2 → ℕ) a ≤ (mat 1024 (width g)).size a}
    {hx : ((pM g).access (Rect.unit (s := mat 1024 (width g)) o ![128, width g] inb)).Stores Finset.univ}
    {hm : Finset.univ = Finset.univ ∨ ∀ a, (Rect.unit (s := mat 1024 (width g)) o ![128, width g] inb).stride a = 1}
    {k : PUnit → Prog (TpuEff nD τ sig (Elt F) Λ₀ .tc) α}
    (hk : iprop(R ∗ At X W c (σ.step (.acc g i))) ⊢ run c (k ⟨⟩) Q) :
    iprop(R ∗ At X W c σ) ⊢ run c (.op (.store (pM g) (Rect.unit (s := mat 1024 (width g)) o ![128, width g] inb) v Finset.univ hx hm) k) Q := by
  subst ho
  iintro ⟨HR, HA⟩
  ihave HA' := (at_blk (g, target i) (some ((stage i).val + 1 + 1))) $$ HA
  rw [hσ, blk_held _ _ _ inb, blk_held _ _ _ inb, V_arrive, ← hv]
  icases HA' with ⟨Hb, Hback⟩
  iapply (own_store 𝒱₀ (c : Thread nD τ) none Set.univ (m := pM g) (hr := fun _ => rfl) (X := V X W g (stage i).val (target i) c)) $$ [Hb]
  · iexact Hb
  iintro Hb
  iapply hk
  isplitl [HR]; · iexact HR
  iapply Hback; iexact Hb

/-- Reading the columns of the result before they are written. -/
theorem step_seeOut {g : Fin 3} {o : Fin 2 → ℕ} (ho : o = ![0, 384 * g.val]) (hσ : σ.out g = false)
    {inb : ∀ a, o a + (![128, width g] : Fin 2 → ℕ) a ≤ (mat 128 1024).size a}
    {hl : oM.view.LoadsAt (Rect.unit (s := mat 128 1024) o ![128, width g] inb).toLoadRect}
    {k : Vec F (mat 128 (width g)) .f32 → Prog (TpuEff nD τ sig (Elt F) Λ₀ .tc) α}
    (hk : ∀ Y, iprop(R ∗ At X W c σ) ⊢ run c (k Y) Q) :
    iprop(R ∗ At X W c σ) ⊢ run c (.op (.load oM (Rect.unit (s := mat 128 1024) o ![128, width g] inb).toLoadRect hl) k) Q := by
  subst ho
  iintro ⟨HR, HA⟩
  ihave HA' := (at_out_look g) $$ HA
  rw [hσ]
  unfold outRes
  icases HA' with ⟨⟨%Y, Hb⟩, Hback⟩
  iapply (own_load_slice 𝒱₀ (c : Thread nD τ) none Set.univ (m := oM) (hr := fun _ => rfl) (X := Y)) $$ [Hb]
  · iexact Hb
  iintro Hb
  iapply (hk Y)
  isplitl [HR]; · iexact HR
  iapply Hback; iexists Y; iexact Hb

/-- Writing the columns of the result. -/
theorem step_fin {g : Fin 3} {o : Fin 2 → ℕ} (ho : o = ![0, 384 * g.val]) (hσ : σ.out g = false) {v : Vec F (mat 128 (width g)) .f32}
    (hv : v = addW (V X W g 2 7 c) (sent X W g 6 (peer g 6 c)))
    {inb : ∀ a, o a + (![128, width g] : Fin 2 → ℕ) a ≤ (mat 128 1024).size a}
    {hx : (oM.access (Rect.unit (s := mat 128 1024) o ![128, width g] inb)).Stores Finset.univ}
    {hm : Finset.univ = Finset.univ ∨ ∀ a, (Rect.unit (s := mat 128 1024) o ![128, width g] inb).stride a = 1}
    {k : PUnit → Prog (TpuEff nD τ sig (Elt F) Λ₀ .tc) α}
    (hk : iprop(R ∗ At X W c (σ.step (.fin g))) ⊢ run c (k ⟨⟩) Q) :
    iprop(R ∗ At X W c σ) ⊢ run c (.op (.store oM (Rect.unit (s := mat 128 1024) o ![128, width g] inb) v Finset.univ hx hm) k) Q := by
  subst ho
  iintro ⟨HR, HA⟩
  ihave HA' := (at_out g true) $$ HA
  rw [hσ]
  unfold outRes
  icases HA' with ⟨⟨%Y, Hb⟩, Hback⟩
  iapply (own_store 𝒱₀ (c : Thread nD τ) none Set.univ (m := oM) (hr := fun _ => rfl) (X := Y)) $$ [Hb]
  · iexact Hb
  iintro Hb
  iapply hk
  isplitl [HR]; · iexact HR
  iapply Hback
  subst hv
  dsimp only
  rw [outG_arrive]
  iexact Hb

/-! ## The first products -/

/-- The product of a half of the rows with a group's columns. -/
def prodV (g : Fin 3) (h : Fin 2) (X : Dev nD → Vec F S1024x128 .bf16) (W : Dev nD → Vec F S128x1024 .bf16) (c : Dev nD) :
    Vec F (mat 512 (width g)) .bf16 := half g (xhalf X g c ⟨hf h g c, hf_lt h g c⟩) (wcols W g c)

theorem row_half (g : Fin 3) (h : Fin 2) (t : Fin 4) (c : Dev nD) : (row g (inHalf h t) c).val / 4 = hf h g c := by
  revert g h t c; decide +kernel
theorem half_row (g : Fin 3) (h : Fin 2) (c : Dev nD) (b : Fin 8) (hb : b.val / 4 = hf h g c) : ∃ t, row g (inHalf h t) c = b := by
  revert g h c b; decide +kernel
theorem inHalf_injective (h : Fin 2) : Function.Injective (inHalf h) := by revert h; decide

theorem mem_block {g : Fin 3} {r : Fin 8} (x : (mat 1024 (width g)).Idx) : x ∈ (blockR g r).set ↔ (x 0).val / 128 = r.val := by
  rw [mem_box]
  have : (x 1).val < width g := (x 1).isLt
  omega
theorem mem_half {g : Fin 3} {k : ℕ} {hk : k < 2} (x : (mat 1024 (width g)).Idx) : x ∈ (halfR g k hk).set ↔ (x 0).val / 512 = k := by
  rw [mem_box]
  have : (x 1).val < width g := (x 1).isLt
  omega

theorem half_cover (g : Fin 3) (h : Fin 2) (c : Dev nD) (x : (mat 1024 (width g)).Idx) :
    x ∈ (halfR g (hf h g c) (hf_lt h g c)).set ↔ ∃ t : Fin 4, x ∈ (blockR g (row g (inHalf h t) c)).set := by
  simp only [mem_half, mem_block]
  constructor
  · intro hx
    have : (x 0).val < 1024 := (x 0).isLt
    obtain ⟨t, ht⟩ := half_row g h c ⟨(x 0).val / 128, by omega⟩ (by show (x 0).val / 128 / 4 = _; omega)
    exact ⟨t, by rw [ht]⟩
  · rintro ⟨t, ht⟩
    have := row_half g h t c
    omega

/-- The product comes apart into its blocks. -/
theorem prod_split (g : Fin 3) (h : Fin 2) (c : Dev nD) :
    (ownsTc c (halfM g (hf h g c) (hf_lt h g c)) fullShare (prodV g h X W c) : sProp 𝕄)
      ⊢ bigSep Finset.univ fun t : Fin 4 => blkRes X W c (g, inHalf h t) (some 1) := by
  refine owns_split (c : Thread nD τ) (pM g) fullShare (halfR g (hf h g c) (hf_lt h g c)) (fun _ => rfl)
    (fun t : Fin 4 => blockR g (row g (inHalf h t) c)) (fun _ _ => rfl) (fun t t' htt => ?_) (half_cover g h c)
    (prodV g h X W c) (fun t => V X W g 0 (inHalf h t) c) fun t j i hji => ?_
  · refine Finset.disjoint_left.mpr fun x hx hy => htt (inHalf_injective h (row_injective g c (Fin.ext ?_)))
    rw [mem_block] at hx hy
    exact hx.symm.trans hy
  · have h0 := congrArg (fun x : (mat 1024 (width g)).Idx => (x 0).val) hji
    have h1 := congrArg (fun x : (mat 1024 (width g)).Idx => (x 1).val) hji
    dsimp only at h0 h1
    rw [box_emb, box_emb] at h0 h1
    have hr := row_half g h t c
    show half g (xhalf X g c (Fin.ofNat 2 ((row g (inHalf h t) c).val / 4))) (wcols W g c) _ = half g (xhalf X g c ⟨hf h g c, hf_lt h g c⟩) (wcols W g c) i
    have e : (Fin.ofNat 2 ((row g (inHalf h t) c).val / 4)) = (⟨hf h g c, hf_lt h g c⟩ : Fin 2) := Fin.ext (by
      show _ % 2 = _; rw [hr]; exact Nat.mod_eq_of_lt (hf_lt h g c))
    rw [e]
    congr 1
    funext a
    match a with
    | 0 =>
      refine Fin.ext ?_
      change 128 * ((row g (inHalf h t) c).val % 4) + (j 0).val = (i 0).val
      change 512 * hf h g c + (i 0).val = 128 * (row g (inHalf h t) c).val + (j 0).val at h0
      omega
    | 1 =>
      refine Fin.ext ?_
      change (j 1).val = (i 1).val
      change 0 + (i 1).val = 0 + (j 1).val at h1
      omega

/-- Reading a half before its product is there. -/
theorem step_seeHalf {g : Fin 3} {h : Fin 2} {o : Fin 2 → ℕ} (ho : o = at512 (hf h g c)) (hσ : σ.raw (g, h) = true)
    {inb : ∀ a, o a + (![512, width g] : Fin 2 → ℕ) a ≤ (mat 1024 (width g)).size a}
    {hl : (pM g).view.LoadsAt (Rect.unit (s := mat 1024 (width g)) o ![512, width g] inb).toLoadRect}
    {k : Vec F (mat 512 (width g)) .bf16 → Prog (TpuEff nD τ sig (Elt F) Λ₀ .tc) α}
    (hk : ∀ Y, iprop(R ∗ At X W c σ) ⊢ run c (k Y) Q) :
    iprop(R ∗ At X W c σ) ⊢ run c (.op (.load (pM g) (Rect.unit (s := mat 1024 (width g)) o ![512, width g] inb).toLoadRect hl) k) Q := by
  subst ho
  iintro ⟨HR, HA⟩
  ihave HA' := (at_raw_look (g, h)) $$ HA
  rw [hσ]
  unfold rawRes
  icases HA' with ⟨⟨%Y, Hb⟩, Hback⟩
  iapply (own_load_slice 𝒱₀ (c : Thread nD τ) none Set.univ (m := pM g) (hr := fun _ => rfl) (X := Y)) $$ [Hb]
  · iexact Hb
  iintro Hb
  iapply (hk Y)
  isplitl [HR]; · iexact HR
  iapply Hback; iexists Y; iexact Hb

theorem at_put (x : Fin 3 × Fin 8) (v : Option ℕ) (hσ : σ.blk x = none) :
    iprop(blkRes X W c x v ∗ At X W c σ) ⊢ At X W c (σ.put x v) := by
  unfold Stand.put
  iintro ⟨Hb, HA⟩
  ihave HA' := (at_blk x v) $$ HA
  icases HA' with ⟨-, Hback⟩
  iapply Hback; iexact Hb

/-- The four blocks of a half come in. -/
theorem four_in {g : Fin 3} {h : Fin 2} (hn : ∀ t, σ.blk (g, inHalf h t) = none) :
    iprop(blkRes X W c (g, inHalf h 0) (some 1) ∗ blkRes X W c (g, inHalf h 1) (some 1) ∗ blkRes X W c (g, inHalf h 2) (some 1)
      ∗ blkRes X W c (g, inHalf h 3) (some 1) ∗ At X W c σ)
      ⊢ At X W c ((((σ.put (g, inHalf h 0) (some 1)).put (g, inHalf h 1) (some 1)).put (g, inHalf h 2) (some 1)).put (g, inHalf h 3) (some 1)) := by
  have ne (t t' : Fin 4) (htt : t ≠ t') : ((g, inHalf h t) : Fin 3 × Fin 8) ≠ (g, inHalf h t') :=
    fun e => htt (inHalf_injective h (congrArg Prod.snd e))
  have n1 : (σ.put (g, inHalf h 0) (some 1)).blk (g, inHalf h 1) = none := (Function.update_of_ne (ne 1 0 (by decide)) _ _).trans (hn 1)
  have n2 : ((σ.put (g, inHalf h 0) (some 1)).put (g, inHalf h 1) (some 1)).blk (g, inHalf h 2) = none :=
    (Function.update_of_ne (ne 2 1 (by decide)) _ _).trans ((Function.update_of_ne (ne 2 0 (by decide)) _ _).trans (hn 2))
  have n3 : (((σ.put (g, inHalf h 0) (some 1)).put (g, inHalf h 1) (some 1)).put (g, inHalf h 2) (some 1)).blk (g, inHalf h 3) = none :=
    (Function.update_of_ne (ne 3 2 (by decide)) _ _).trans ((Function.update_of_ne (ne 3 1 (by decide)) _ _).trans
      ((Function.update_of_ne (ne 3 0 (by decide)) _ _).trans (hn 3)))
  iintro ⟨H0, H1, H2, H3, HA⟩
  iapply (at_put _ _ n3)
  isplitl [H3]; · iexact H3
  iapply (at_put _ _ n2)
  isplitl [H2]; · iexact H2
  iapply (at_put _ _ n1)
  isplitl [H1]; · iexact H1
  iapply (at_put _ _ (hn 0))
  isplitl [H0] <;> iassumption

/-- Storing a product: the half becomes its four blocks. -/
theorem step_prod {g : Fin 3} {h : Fin 2} {o : Fin 2 → ℕ} (ho : o = at512 (hf h g c)) (hσ : σ.raw (g, h) = true)
    (hn : ∀ t, σ.blk (g, inHalf h t) = none) {v : Vec F (mat 512 (width g)) .bf16} (hv : v = prodV g h X W c)
    {inb : ∀ a, o a + (![512, width g] : Fin 2 → ℕ) a ≤ (mat 1024 (width g)).size a}
    {hx : ((pM g).access (Rect.unit (s := mat 1024 (width g)) o ![512, width g] inb)).Stores Finset.univ}
    {hm : Finset.univ = Finset.univ ∨ ∀ a, (Rect.unit (s := mat 1024 (width g)) o ![512, width g] inb).stride a = 1}
    {k : PUnit → Prog (TpuEff nD τ sig (Elt F) Λ₀ .tc) α}
    (hk : iprop(R ∗ At X W c (σ.step (.prod g h))) ⊢ run c (k ⟨⟩) Q) :
    iprop(R ∗ At X W c σ) ⊢ run c (.op (.store (pM g) (Rect.unit (s := mat 1024 (width g)) o ![512, width g] inb) v Finset.univ hx hm) k) Q := by
  subst ho
  iintro ⟨HR, HA⟩
  ihave HA' := (at_raw (g, h) false) $$ HA
  rw [hσ]
  icases HA' with ⟨Hb, Hback⟩
  unfold rawRes
  icases Hb with ⟨%Y, Hb⟩
  iapply (own_store 𝒱₀ (c : Thread nD τ) none Set.univ (m := pM g) (hr := fun _ => rfl) (X := Y)) $$ [Hb]
  · iexact Hb
  iintro Hb
  subst hv
  ihave Hb' := (show owns (c : Thread nD τ) (halfM g (hf h g c) (hf_lt h g c)) fullShare (prodV g h X W c)
    ⊢ (iprop(blkRes X W c (g, inHalf h 0) (some 1) ∗ blkRes X W c (g, inHalf h 1) (some 1) ∗ blkRes X W c (g, inHalf h 2) (some 1)
      ∗ blkRes X W c (g, inHalf h 3) (some 1)) : sProp 𝕄) from
    (prod_split g h c).trans (Entails.of_eq (bigSep_univ_eq_bigSepL [0, 1, 2, 3] (by decide) (by decide) _))) $$ Hb
  icases Hb' with ⟨H0, H1, H2, H3⟩
  iapply hk
  isplitl [HR]; · iexact HR
  ihave HA := Hback $$ []
  · iempintro
  iapply (four_in (σ := { σ with raw := Function.update σ.raw (g, h) false }) hn)
  isplitl [H0]; · iexact H0
  isplitl [H1]; · iexact H1
  isplitl [H2]; · iexact H2
  isplitl [H3]; · iexact H3
  iexact HA

end Cert.KProof
-- ==== Proof.Comm.lean ====
/-
# The operations that talk to other devices

Signals, the barrier, starting a copy and the two waits of a copy.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Vec F S1024x128 .bf16} {W : Dev nD → Vec F S128x1024 .bf16}
variable {c : Dev nD} {σ : Stand} {R : sProp (MT nD τ sig Unit (Elt F) ℕ UU ℕ)} {α : Type}
  {Q : α → sProp (MT nD τ sig Unit (Elt F) ℕ UU ℕ)}

/-- Starting a copy. -/
theorem step_send {g : Fin 3} {i : Fin 7} {o o' : Fin 2 → ℕ} (ho : o = at128 (row g i.castSucc c).val) (ho' : o' = at128 (slot g i c))
    {n : Dev nD} (hn : n = peer g i c) (hσ : σ.ph (g, i) = 1) (hb : σ.blk (g, i.castSucc) = some ((stage i).val + 1))
    {inb : ∀ a, o a + (![128, width g] : Fin 2 → ℕ) a ≤ (mat 1024 (width g)).size a}
    {inb' : ∀ a, o' a + (![128, width g] : Fin 2 → ℕ) a ≤ (mat (128 * parts (stage i)) (width g)).size a}
    {hsc : ((rvM g (stage i)).slice (Rect.unit (s := mat (128 * parts (stage i)) (width g)) o' ![128, width g] inb') (fun _ => rfl) :
      Memref sig (Dev.tc n : Thread nD τ).2.kind .vmem (mat 128 (width g)) .bf16).view.ref.isScScratch = false}
    {hsrc : ((pM g).slice (Rect.unit (s := mat 1024 (width g)) o ![128, width g] inb) fun _ => rfl).view.WordExact}
    {hdst : ((rvM g (stage i)).slice (Rect.unit (s := mat (128 * parts (stage i)) (width g)) o' ![128, width g] inb') fun _ => rfl).view.WordExact}
    {hsem : DmaTarget.Typed .vmem (.dma (dsem 1 g i)) (.remote (Dev.tc n : Thread nD τ)
      ((rvM g (stage i)).slice (Rect.unit (s := mat (128 * parts (stage i)) (width g)) o' ![128, width g] inb') (fun _ => rfl) :
        Memref sig (Dev.tc n : Thread nD τ).2.kind .vmem (mat 128 (width g)) .bf16) (.dma (dsem 0 g i)) hsc)}
    {k : PUnit → Prog (TpuEff nD τ sig (Elt F) Λ₀ .tc) α}
    (hk : iprop(R ∗ At X W c (σ.step (.send g i))) ⊢ run c (k ⟨⟩) Q) :
    iprop(R ∗ At X W c σ) ⊢ run c (.op (.enqueueDma ((pM g).slice (Rect.unit (s := mat 1024 (width g)) o ![128, width g] inb) fun _ => rfl)
      (.remote (Dev.tc n : Thread nD τ)
        ((rvM g (stage i)).slice (Rect.unit (s := mat (128 * parts (stage i)) (width g)) o' ![128, width g] inb') (fun _ => rfl) :
        Memref sig (Dev.tc n : Thread nD τ).2.kind .vmem (mat 128 (width g)) .bf16) (.dma (dsem 0 g i)) hsc)
      (.dma (dsem 1 g i)) hsrc hdst hsem) k) Q := by
  subst ho ho' hn
  have hO := owed_send σ c g i hσ
  iintro ⟨HR, HA⟩
  ihave HA' := (at_blk (g, i.castSucc) none) $$ HA
  rw [hb, blk_held _ _ _ inb]
  icases HA' with ⟨Hb, Hback⟩
  ihave HA := Hback $$ []
  · iempintro
  ihave HA' := (at_ph (g, i) 2) $$ HA
  dsimp only
  rw [hσ]
  unfold phRes kit land
  dsimp only
  icases HA' with ⟨#Hrec, ⟨%Ws, Ho⟩, ⟨⟨HtS, HtV, HaS, HaV, HcV⟩, ⟨%Y, Hland⟩⟩, Hback⟩
  ihave HIS := (records_inv X W (c, some (0, g, i))) $$ Hrec
  ihave HIV := (records_inv X W (peer g i c, some (1, g, i))) $$ Hrec
  ihave HrS := (records_reached X W (c, some (0, g, i))) $$ Hrec
  ihave HrV := (records_reached X W (peer g i c, some (1, g, i))) $$ Hrec
  icases HIS with ⟨%κ₁, HIS⟩
  icases HIV with ⟨%κ₂, HIV⟩
  unfold ownsTc owns
  icases Hb with ⟨%fs, %hfs, Hb⟩
  icases Hland with ⟨%fd, %hfd, Hland⟩
  iapply (Rounds.wp_send_pointsTo 𝒱₀ ER (xRd X W) (c : Thread nD τ) none (κ₁ := κ₁) (κ₂ := κ₂)
    (r₁ := 0) (r₂ := 0) (d₁ := 0) (d₂ := 0) (c' := (Dev.tc (peer g i c) : Thread nD τ)) (fs := fs) (fd := fd) (q := fullShare)
    (sS := .dma (dsem 0 g i)) (sem := .dma (dsem 1 g i))
    (by rw [duties_x]; exact Finset.mem_singleton_self _) (by rw [duties_x]; exact Finset.mem_singleton_self _)
    () () (N g) (N_slot g i c) (amount_x X W c 0 g i 0) (amount_x X W (peer g i c) 1 g i 0) (owed (σ.step (.send g i)) c) hO (W := Ws)
    (by
      rw [payload_send]; unfold sendPay
      iintro H
      iexists ((blockM g (row g i.castSucc c)).view.read (Elt F) fs)
      iapply (owns_intro (c : Thread nD τ) (blockM g (row g i.castSucc c)) fullShare fs); iexact H)
    (by
      rw [payload_recv]; unfold recvPay
      rw [peer_peer]
      unfold ownsTc owns
      iintro H
      iexists _
      isplitr
      rotate_left
      · iexact H
      · ipureintro
        exact (View.read_write_univ _ _).trans hfs)) $$ [Hb Hland Ho HtS HtV]
  · isplitl []; · iexact HIS
    isplitl []; · iexact HIV
    isplitl [Hb]; · iexact Hb
    isplitl [Hland]; · iexact Hland
    isplitl [Ho]; · iexact Ho
    isplitl [HtS]; · iexact HtS
    isplitl []; · iexact HrS
    isplitl [HtV]; · iexact HtV
    iexact HrV
  iintro ⟨HcS, Ho⟩
  iapply hk
  isplitl [HR]; · iexact HR
  unfold Stand.step
  iapply Hback $$ [Ho]
  · iexists Ws; iexact Ho
  isplitl [HcS]; · iexact HcS
  isplitl [HaS]; · iexact HaS
  isplitl [HaV]; · iexact HaV
  iexact HcV

theorem owed_move (σ : Stand) (c : Dev nD) (x : Fin 3 × Fin 7) (v : Fin 5) (h : ¬σ.ph x ≤ 1) (hv : ¬v ≤ 1) :
    owed σ c = owed { σ with ph := Function.update σ.ph x v } c :=
  owed_same c (fun y => by
    by_cases hy : y = x
    · subst hy; dsimp only; rw [Function.update_self]; exact ⟨fun e => absurd e h, fun e => absurd e hv⟩
    · dsimp only; rw [Function.update_of_ne hy]) rfl

/-- The wait for the send to be over. -/
theorem step_freed {g : Fin 3} {i : Fin 7} (hσ : σ.ph (g, i) = 2) (hb : σ.blk (g, i.castSucc) = none)
    {sp sp' : Space} {s s' : Shape} {e e' : EltTy} {m₁ : Memref sig .tc sp s e} {m₂ : Memref sig .tc sp' s' e'}
    (hN : m₂.view.dmaCredit = N g) {h₁ h₂}
    {k : PUnit → Prog (TpuEff nD τ sig (Elt F) Λ₀ .tc) α}
    (hk : iprop(R ∗ At X W c (σ.step (.freed g i))) ⊢ run c (k ⟨⟩) Q)
    (ht : ∀ d, σ.told d = true) :
    iprop(R ∗ At X W c σ) ⊢ run c (.op (.waitDma2 (dsem 0 g i) m₁ m₂ h₁ h₂) k) Q := by
  iintro ⟨HR, HA⟩
  ihave HA' := (at_ph (g, i) 3) $$ HA
  rw [hσ]
  unfold phRes
  dsimp only
  icases HA' with ⟨#Hrec, ⟨%Ws, Ho⟩, ⟨HcS, HaS, HaV, HcV⟩, Hback⟩
  ihave #HIS' := (records_inv X W (c, some (0, g, i))) $$ Hrec
  ihave Hlev := (records_levels X W) $$ Hrec
  icases HIS' with ⟨%κ, #HIS⟩
  iapply (Rounds.wp_wait_rest_token 𝒱₀ ER (xRd X W) (c : Thread nD τ) none (κ := κ)
      (wpE_waitDma2_eq 𝒱₀ (c : Thread nD τ) none Set.univ) (Set.mem_univ _) () (O := owed σ c) (W := Ws) (R := 0) (m := 0) (T := ∅)
      (by rw [Nat.zero_add, expect_x, hN])) $$ [HcS Ho HaS Hlev]
  · isplitl []; · iexact HIS
    isplitl [HcS]; · rw [hN]; iexact HcS
    isplitl [Ho]; · iexact Ho
    isplitl [Hlev]
    · iapply (mayWait σ c (.dma (dsem 0 g i)) 0 (lv_send g i c) (fun _ _ => by omega) (fun d hd => absurd (hd.symm.trans (ht d)) (by decide)))
      iexact Hlev
    iexact HaS
  iintro ⟨Ho, HaS, -, Hpay⟩
  ihave Hpay := (Entails.of_eq (rest_send X W c g i)) $$ Hpay
  imod (Rounds.cell_close ER (xRd X W) (Set.mem_univ κ) (fun h => h) (R := 0 + 1) (duties_later X W (xCell 0 g i c))) $$ [HaS] with HzS
  · isplitr; · iexact HIS
    iexact HaS
  iapply hk
  isplitl [HR]; · iexact HR
  ihave HA := Hback $$ [Ho]
  · iexists _
    iapply (Entails.of_eq (congrArg (fun O => owes (c : Thread nD τ) O (insert (SemLoc.dma (dsem 0 g i), ()) Ws))
      (owed_move σ c (g, i) 3 (by rw [hσ]; decide) (by decide))))
    iexact Ho
  ihave HA := HA $$ [HzS HaV HcV]
  · isplitl [HzS]; · iexact HzS
    isplitl [HaV]; · iexact HaV
    iexact HcV
  iapply (at_put (σ := { σ with ph := Function.update σ.ph (g, i) 3 }) (g, i.castSucc) (some 0) hb)
  isplitl [Hpay]
  · iapply (show (sendPay g i c : sProp 𝕄) ⊢ blkRes X W c (g, i.castSucc) (some 0) from Entails.refl _); iexact Hpay
  iexact HA

/-- The wait for an arrival. -/
theorem step_came {g : Fin 3} {i : Fin 7} (hσ : σ.ph (g, i) = 3)
    {sp sp' : Space} {s s' : Shape} {e e' : EltTy} {m₁ : Memref sig .tc sp s e} {m₂ : Memref sig .tc sp' s' e'}
    (hN : m₂.view.dmaCredit = N g) {h₁ h₂}
    {k : PUnit → Prog (TpuEff nD τ sig (Elt F) Λ₀ .tc) α}
    (hk : iprop(R ∗ At X W c (σ.step (.came g i))) ⊢ run c (k ⟨⟩) Q)
    (ht : ∀ d, σ.told d = true) (hw : ∀ x : Fin 3 × Fin 7, σ.ph x ≤ 1 → 2 + (stage i).val < 2 + (stage x.2).val) :
    iprop(R ∗ At X W c σ) ⊢ run c (.op (.waitDma2 (dsem 1 g i) m₁ m₂ h₁ h₂) k) Q := by
  iintro ⟨HR, HA⟩
  ihave HA' := (at_ph (g, i) 4) $$ HA
  rw [hσ]
  unfold phRes
  dsimp only
  icases HA' with ⟨#Hrec, ⟨%Ws, Ho⟩, ⟨HzS, HaV, HcV⟩, Hback⟩
  ihave #HIV' := (records_inv X W (c, some (1, g, i))) $$ Hrec
  ihave Hlev := (records_levels X W) $$ Hrec
  icases HIV' with ⟨%κ, #HIV⟩
  iapply (Rounds.wp_wait_rest_token 𝒱₀ ER (xRd X W) (c : Thread nD τ) none (κ := κ)
      (wpE_waitDma2_eq 𝒱₀ (c : Thread nD τ) none Set.univ) (Set.mem_univ _) () (O := owed σ c) (W := Ws) (R := 0) (m := 0) (T := ∅)
      (by rw [Nat.zero_add, expect_x, hN])) $$ [HcV Ho HaV Hlev]
  · isplitl []; · iexact HIV
    isplitl [HcV]; · rw [hN]; iexact HcV
    isplitl [Ho]; · iexact Ho
    isplitl [Hlev]
    · iapply (mayWait σ c (.dma (dsem 1 g i)) (2 + (stage i).val) (lv_recv g i c) hw (fun d hd => absurd (hd.symm.trans (ht d)) (by decide)))
      iexact Hlev
    iexact HaV
  iintro ⟨Ho, HaV, -, Hpay⟩
  ihave Hpay := (Entails.of_eq (rest_recv X W c g i)) $$ Hpay
  imod (Rounds.cell_close ER (xRd X W) (Set.mem_univ κ) (fun h => h) (R := 0 + 1) (duties_later X W (xCell 1 g i c))) $$ [HaV] with HzV
  · isplitr; · iexact HIV
    iexact HaV
  iapply hk
  isplitl [HR]; · iexact HR
  iapply Hback $$ [Ho]
  · iexists _
    iapply (Entails.of_eq (congrArg (fun O => owes (c : Thread nD τ) O (insert (SemLoc.dma (dsem 1 g i), ()) Ws))
      (owed_move σ c (g, i) 4 (by rw [hσ]; decide) (by decide))))
    iexact Ho
  isplitl [HzS]; · iexact HzS
  isplitl [HzV]; · iexact HzV
  iexact Hpay

/-- Signalling a neighbour: it may write where this device receives from it. -/
theorem step_tell {d : Fin 3} {n : Dev nD} (hn : n = peer d 0 c) (hσ : σ.told d = false)
    {k : PUnit → Prog (TpuEff nD τ sig (Elt F) Λ₀ .tc) α}
    (hk : iprop(R ∗ At X W c (σ.step (.tell d))) ⊢ run c (k ⟨⟩) Q) :
    iprop(R ∗ At X W c σ) ⊢ run c (.op (.semSignal ((n, .tc) : Thread nD τ) barS (1#32 : BitVec 32).toInt) k) Q := by
  subst hn
  have hO := owed_tell σ c d hσ
  iintro ⟨HR, HA⟩
  unfold At
  icases HA with ⟨#Hrec, ⟨%Ws, Ho⟩, Ht, Hm, Hraw, Hb, Hp, Hout⟩
  ihave Ht' := (bigSep_at (tellRes (F := F) c) σ.told d true) $$ Ht
  rw [hσ]
  unfold tellRes
  dsimp only
  icases Ht' with ⟨⟨Htok, Hpay⟩, Hback⟩
  ihave #HI' := (records_inv X W (peer d 0 c, none)) $$ Hrec
  ihave Hr := (records_reached X W (peer d 0 c, none)) $$ Hrec
  icases HI' with ⟨%κ, #HI⟩
  iapply (Rounds.wp_signal 𝒱₀ ER (xRd X W) (c : Thread nD τ) none (dst := (peer d 0 c : Thread nD τ)) (κ := κ) (d := d)
      (by rw [duties_bar]; exact Finset.mem_univ _) ((amount_bar X W (peer d 0 c) d).trans (by decide)) () (owed (σ.step (.tell d)) c) hO)
    $$ [Ho Htok Hpay Hr]
  · isplitr; · iexact HI
    isplitl [Ho]; · iexact Ho
    isplitl [Htok]; · iexact Htok
    isplitl [Hpay]
    · rw [payload_bar]; iexact Hpay
    · iexact Hr
  iintro Ho
  iapply hk
  isplitl [HR]; · iexact HR
  unfold At
  isplitr; · iexact Hrec
  isplitl [Ho]; · iexists Ws; iexact Ho
  isplitl [Hback]
  · iapply Hback; iempintro
  isplitl [Hm]; · iexact Hm
  isplitl [Hraw]; · iexact Hraw
  isplitl [Hb]; · iexact Hb
  isplitl [Hp]; · iexact Hp
  iexact Hout

/-- A neighbour and a copy, as the group and the copy. -/
def turn : Fin 3 × Fin 7 ≃ Fin 3 × Fin 7 :=
  ⟨fun x => (x.1 - stage x.2, x.2), fun x => (x.1 + stage x.2, x.2), fun x => by revert x; decide, fun x => by revert x; decide⟩

/-- Every landing block, sorted by neighbour. -/
theorem lands_all (c : Dev nD) : (bigSep Finset.univ fun d : Fin 3 => (barPay d c : sProp 𝕄))
    = bigSep Finset.univ fun x : Fin 3 × Fin 7 => land x.1 x.2 c := by
  unfold barPay
  rw [← bigSep_univ_prod (fun x : Fin 3 × Fin 7 => (land (F := F) (x.1 - stage x.2) x.2 c : sProp 𝕄))]
  exact (bigSep_univ_equiv turn (fun x : Fin 3 × Fin 7 => (land (F := F) x.1 x.2 c : sProp 𝕄))).symm

/-- The barrier: every neighbour has said where it receives. -/
theorem step_meet (hσ : σ.met = false) (hp : ∀ x, σ.ph x = 0) (ht : ∀ d, σ.told d = true)
    {k : PUnit → Prog (TpuEff nD τ sig (Elt F) Λ₀ .tc) α}
    (hk : iprop(R ∗ At X W c (σ.step .meet)) ⊢ run c (k ⟨⟩) Q) :
    iprop(R ∗ At X W c σ) ⊢ run c (.op (.semWait barS (3#32 : BitVec 32).toInt) k) Q := by
  iintro ⟨HR, HA⟩
  unfold At
  icases HA with ⟨#Hrec, ⟨%Ws, Ho⟩, Ht, Hm, Hraw, Hb, Hp, Hout⟩
  rw [hσ]
  unfold meetRes
  dsimp only
  icases Hm with ⟨Hat, Hc⟩
  ihave #HI' := (records_inv X W (c, none)) $$ Hrec
  ihave Hlev := (records_levels X W) $$ Hrec
  icases HI' with ⟨%κ, #HI⟩
  iapply (Rounds.wp_wait_rest_token 𝒱₀ ER (xRd X W) (c : Thread nD τ) none (κ := κ)
      (wpE_semWait_eq 𝒱₀ (c : Thread nD τ) none Set.univ) (Set.mem_univ _) () (O := owed σ c) (W := Ws) (R := 0) (m := 0) (T := ∅)
      (by rw [expect_bar]; decide)) $$ [Hc Ho Hat Hlev]
  · isplitr; · iexact HI
    isplitl [Hc]; · iexact Hc
    isplitl [Ho]; · iexact Ho
    isplitl [Hlev]
    · iapply (mayWait σ c (.reg barS) 1 rfl (fun _ _ => by omega) (fun d hd => absurd (hd.symm.trans (ht d)) (by decide)))
      iexact Hlev
    iexact Hat
  iintro ⟨Ho, Hat, -, Hpay⟩
  ihave Hpay := (Entails.of_eq ((rest_bar X W c).trans (lands_all c))) $$ Hpay
  imod (Rounds.cell_close ER (xRd X W) (Set.mem_univ κ) (fun h => h) (R := 0 + 1) (duties_later X W (barCell c))) $$ [Hat] with Hz
  · isplitr; · iexact HI
    iexact Hat
  iapply hk
  isplitl [HR]; · iexact HR
  unfold At
  isplitr; · iexact Hrec
  isplitl [Ho]
  · iexists _
    iapply (Entails.of_eq (congrArg (fun O => owes (c : Thread nD τ) O (insert (SemLoc.reg barS, ()) Ws))
      (show owed σ c = owed (σ.step .meet) c from owed_same c (fun x => by
        rw [hp x]; show (0 : Fin 5) ≤ 1 ↔ (1 : Fin 5) ≤ 1; decide) rfl)))
    iexact Ho
  isplitl [Ht]; · iexact Ht
  isplitl [Hz]
  · iapply (show (semVal (barCell c) 0 : sProp 𝕄) ⊢ meetRes c (σ.step .meet).met from Entails.refl _); iexact Hz
  isplitl [Hraw]; · iexact Hraw
  isplitl [Hb]; · iexact Hb
  isplitl [Hp Hpay]
  · iapply (show iprop((bigSep Finset.univ fun x => phRes X W c x (σ.ph x)) ∗ bigSep Finset.univ fun x : Fin 3 × Fin 7 => land x.1 x.2 c)
      ⊢ bigSep Finset.univ fun x => phRes X W c x ((σ.step .meet).ph x) from by
        rw [← bigSep_sep']
        exact bigSep_mono fun x _ => by rw [hp x]; exact Entails.refl _)
    isplitl [Hp] <;> iassumption
  iexact Hout

end Cert.KProof
-- ==== Proof.Fill.lean ====
/-
# Before the exchange

The two inputs are copied into working memory: `w` as it is, the rows of `x` once per group in the order the group uses.
Then the products read them.
-/
module

public import proofs.«01_k».proof.Proof.Comm

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x128 .bf16) (W : Dev nD → Vec F S128x1024 .bf16)

/-- A block of the rows of a group. -/
abbrev pieceR (b : Fin 8) : Rect (mat 1024 128) :=
  box 1024 128 (128 * b.val) 0 128 128 (inb_of (by have := b.isLt; omega) (by omega))
abbrev pieceM (g : Fin 3) (b : Fin 8) : Memref sig .tc .vmem (mat 128 128) .bf16 := (xgM g).slice (pieceR b) fun _ => rfl

/-- What it gets. -/
def pieceV (g : Fin 3) (b : Fin 8) (c : Dev nD) : Vec F (mat 128 128) .bf16 := fun y => xrows X g c ((pieceR b).emb y)

theorem pieceV_eq (g : Fin 3) (b : Fin 8) (c : Dev nD) {o : Fin 2 → ℕ} (ho : o = at128 (devOf g b).val)
    {inb : ∀ a, o a + (![128, 128] : Fin 2 → ℕ) a ≤ (mat 1024 128).size a} :
    (fun j => X c ((Rect.unit (s := mat 1024 128) o ![128, 128] inb).toLoadRect.idx j)) = pieceV X g b c := by
  subst ho
  funext y
  have h0 : (y 0).val < 128 := (y 0).isLt
  have e0 : ((pieceR b).emb y 0).val = 128 * b.val + (y 0).val := box_emb y 0
  have e1 : ((pieceR b).emb y 1).val = 0 + (y 1).val := box_emb y 1
  have hb : Fin.ofNat 8 (((pieceR b).emb y 0).val / 128) = b := Fin.ext (by
    show _ % 8 = _; rw [e0]; have := b.isLt; omega)
  show _ = X c (at2 _ _)
  congr 1
  funext a
  match a with
  | 0 =>
    refine Fin.ext ?_
    show 128 * (devOf g b).val + 1 * (y 0).val = 128 * (devOf g (Fin.ofNat 8 (((pieceR b).emb y 0).val / 128))).val + ((pieceR b).emb y 0).val % 128
    rw [hb, e0]; omega
  | 1 =>
    refine Fin.ext ?_
    show 0 + 1 * (y 1).val = ((pieceR b).emb y 1).val
    rw [e1]; omega

def wbRes (c : Dev nD) : Bool → sProp 𝕄
  | false => iprop(∃ Y, ownsTc c wbM fullShare Y)
  | true => ownsTc c wbM fullShare (W c)

def pieceRes (c : Dev nD) (x : Fin 3 × Fin 8) : Bool → sProp 𝕄
  | false => iprop(∃ Y, ownsTc c (pieceM x.1 x.2) fullShare Y)
  | true => ownsTc c (pieceM x.1 x.2) fullShare (pieceV X x.1 x.2 c)

/-- Which blocks are copied after the first `n`. -/
def copied (n : ℕ) (x : Fin 3 × Fin 8) : Bool := decide (8 * x.1.val + x.2.val < n)

/-- `w` copied or not, the first `n` blocks of rows copied. -/
def Pre (c : Dev nD) (w : Bool) (n : ℕ) : sProp 𝕄 :=
  iprop(ownsTc c xM fullShare (X c) ∗ ownsTc c wM fullShare (W c) ∗ wbRes W c w
    ∗ bigSep Finset.univ fun x => pieceRes X c x (copied n x))

/-- Everything copied. -/
def Ready (c : Dev nD) : sProp 𝕄 :=
  iprop(ownsTc c xM fullShare (X c) ∗ ownsTc c wM fullShare (W c) ∗ ownsTc c wbM fullShare (W c)
    ∗ bigSep Finset.univ fun g => ownsTc c (xgM g) fullShare (xrows X g c))

theorem copied_succ (g : Fin 3) (b : Fin 8) (n : ℕ) (hn : n = 8 * g.val + b.val) :
    copied (n + 1) = Function.update (copied n) (g, b) true := by
  subst hn
  funext x
  by_cases h : x = (g, b)
  · subst h; rw [Function.update_self]; exact decide_eq_true (show 8 * g.val + b.val < 8 * g.val + b.val + 1 by omega)
  · rw [Function.update_of_ne h]
    refine decide_eq_decide.mpr ⟨fun h' => ?_, fun h' => by omega⟩
    by_contra hc
    have h1 : x.1.val = g.val := by have := x.2.isLt; have := b.isLt; omega
    exact h (Prod.ext (Fin.ext h1) (Fin.ext (show x.2.val = b.val by omega)))

theorem copied_not (g : Fin 3) (b : Fin 8) (n : ℕ) (hn : n = 8 * g.val + b.val) : copied n (g, b) = false :=
  decide_eq_false (by subst hn; exact Nat.lt_irrefl _)

variable {X W}
variable {c : Dev nD} {T : sProp (MT nD τ sig Unit (Elt F) ℕ UU ℕ)} {α : Type}
  {Q : α → sProp (MT nD τ sig Unit (Elt F) ℕ UU ℕ)}

/-- Copying one block of rows: a load, a load of what was there, a store. -/
theorem copy_in {w : Bool} {n : ℕ} (hlt : n < 24) {o o' : Fin 2 → ℕ}
    (ho : o = at128 (devOf (Fin.ofNat 3 (n / 8)) (Fin.ofNat 8 n)).val) (ho' : o' = at128 (n % 8))
    {pay : Vec F (mat 128 128) .bf16 → Vec F (mat 128 128) .bf16} (hp : ∀ v, pay v = v)
    {inb : ∀ a, o a + (![128, 128] : Fin 2 → ℕ) a ≤ (mat 1024 128).size a} {inb' inb'' : ∀ a, o' a + (![128, 128] : Fin 2 → ℕ) a ≤ (mat 1024 128).size a}
    {hl : xM.view.LoadsAt (Rect.unit (s := mat 1024 128) o ![128, 128] inb).toLoadRect}
    {hl' : (xgM (Fin.ofNat 3 (n / 8))).view.LoadsAt (Rect.unit (s := mat 1024 128) o' ![128, 128] inb').toLoadRect}
    {hx : ((xgM (Fin.ofNat 3 (n / 8))).access (Rect.unit (s := mat 1024 128) o' ![128, 128] inb'')).Stores Finset.univ}
    {hm : Finset.univ = Finset.univ ∨ ∀ a, (Rect.unit (s := mat 1024 128) o' ![128, 128] inb'').stride a = 1}
    {k : PUnit → Prog (TpuEff nD τ sig (Elt F) Λ₀ .tc) α}
    (hk : iprop(Pre X W c w (n + 1) ∗ T) ⊢ run c (k ⟨⟩) Q) :
    iprop(Pre X W c w n ∗ T) ⊢ run c (.op (.load xM (Rect.unit (s := mat 1024 128) o ![128, 128] inb).toLoadRect hl) fun v =>
      .op (.load (xgM (Fin.ofNat 3 (n / 8))) (Rect.unit (s := mat 1024 128) o' ![128, 128] inb').toLoadRect hl') fun _ =>
      .op (.store (xgM (Fin.ofNat 3 (n / 8))) (Rect.unit (s := mat 1024 128) o' ![128, 128] inb'') (pay v) Finset.univ hx hm) k) Q := by
  have hn : n = 8 * (Fin.ofNat 3 (n / 8)).val + (Fin.ofNat 8 n).val := by show n = 8 * (n / 8 % 3) + n % 8; omega
  generalize hg : Fin.ofNat 3 (n / 8) = g at *
  generalize hb : Fin.ofNat 8 n = b at *
  have hb' : n % 8 = b.val := by rw [← hb]; rfl
  rw [hb'] at ho'
  subst ho'
  iintro ⟨HP, HT⟩
  unfold Pre
  icases HP with ⟨Hx, Hw, Hwb, Hp⟩
  iapply (own_load 𝒱₀ (c : Thread nD τ) none Set.univ (m := xM) (X := X c)) $$ [Hx]
  · iexact Hx
  iintro Hx
  rw [pieceV_eq X g b c ho, hp]
  ihave Hp' := (bigSep_at (pieceRes X c) (copied n) (g, b) true) $$ Hp
  rw [copied_not g b n hn, ← copied_succ g b n hn]
  unfold pieceRes
  icases Hp' with ⟨⟨%Y, Hb⟩, Hback⟩
  iapply (own_load_slice 𝒱₀ (c : Thread nD τ) none Set.univ (m := xgM g) (hr := fun _ => rfl) (X := Y)) $$ [Hb]
  · iexact Hb
  iintro Hb
  iapply (own_store 𝒱₀ (c : Thread nD τ) none Set.univ (m := xgM g) (hr := fun _ => rfl) (X := Y)) $$ [Hb]
  · iexact Hb
  iintro Hb
  iapply hk
  isplitr [HT]
  · unfold Pre
    isplitl [Hx]; · iexact Hx
    isplitl [Hw]; · iexact Hw
    isplitl [Hwb]; · iexact Hwb
    iapply Hback; iexact Hb
  · iexact HT

/-- Copying `w`. -/
theorem copy_w {n : ℕ} {o : Fin 2 → ℕ} (ho : o = ![0, 0])
    {pay : Vec F (mat 128 1024) .bf16 → Vec F (mat 128 1024) .bf16} (hp : ∀ v, pay v = v)
    {inb : ∀ a, o a + (![128, 1024] : Fin 2 → ℕ) a ≤ (mat 128 1024).size a}
    {hl : wM.view.LoadsAt (Rect.unit (s := mat 128 1024) o ![128, 1024] inb).toLoadRect}
    {hl' : wbM.view.LoadsAt (Rect.unit (s := mat 128 1024) o ![128, 1024] inb).toLoadRect}
    {hx : (wbM.access (Rect.unit (s := mat 128 1024) o ![128, 1024] inb)).Stores Finset.univ}
    {hm : Finset.univ = Finset.univ ∨ ∀ a, (Rect.unit (s := mat 128 1024) o ![128, 1024] inb).stride a = 1}
    {k : PUnit → Prog (TpuEff nD τ sig (Elt F) Λ₀ .tc) α}
    (hk : iprop(Pre X W c true n ∗ T) ⊢ run c (k ⟨⟩) Q) :
    iprop(Pre X W c false n ∗ T) ⊢ run c (.op (.load wM (Rect.unit (s := mat 128 1024) o ![128, 1024] inb).toLoadRect hl) fun v =>
      .op (.load wbM (Rect.unit (s := mat 128 1024) o ![128, 1024] inb).toLoadRect hl') fun _ =>
      .op (.store wbM (Rect.unit (s := mat 128 1024) o ![128, 1024] inb) (pay v) Finset.univ hx hm) k) Q := by
  subst ho
  have hall : (Rect.unit (s := mat 128 1024) ![0, 0] ![128, 1024] inb).set = Finset.univ := by
    ext x
    have h0 : (x 0).val < 128 := (x 0).isLt
    have h1 : (x 1).val < 1024 := (x 1).isLt
    exact ⟨fun _ => Finset.mem_univ _, fun _ => (mem_box x).mpr (by omega)⟩
  have hid (Y : Vec F (mat 128 1024) .bf16) (j) : Y ((Rect.unit (s := mat 128 1024) ![0, 0] ![128, 1024] inb).emb j) = Y j := by
    congr 1
    funext a
    refine Fin.ext ((box_emb j a).trans ?_)
    match a with
    | 0 => exact Nat.zero_add _
    | 1 => exact Nat.zero_add _
  have hid' : (fun j => W c ((Rect.unit (s := mat 128 1024) ![0, 0] ![128, 1024] inb).toLoadRect.idx j)) = W c := funext fun j => hid (W c) j
  iintro ⟨HP, HT⟩
  unfold Pre
  icases HP with ⟨Hx, Hw, Hwb, Hp⟩
  iapply (own_load 𝒱₀ (c : Thread nD τ) none Set.univ (m := wM) (X := W c)) $$ [Hw]
  · iexact Hw
  iintro Hw
  rw [hid', hp]
  unfold wbRes
  icases Hwb with ⟨%Y, Hb⟩
  ihave Hb := (owns_full (c : Thread nD τ) wbM fullShare (Rect.unit (s := mat 128 1024) ![0, 0] ![128, 1024] inb) (fun _ => rfl) hall Y) $$ [Hb]
  · iexact Hb
  iapply (own_load_slice 𝒱₀ (c : Thread nD τ) none Set.univ (m := wbM) (hr := fun _ => rfl)) $$ [Hb]
  · iexact Hb
  iintro Hb
  iapply (own_store 𝒱₀ (c : Thread nD τ) none Set.univ (m := wbM) (hr := fun _ => rfl)) $$ [Hb]
  · iexact Hb
  iintro Hb
  iapply hk
  isplitr [HT]
  · unfold Pre
    isplitl [Hx]; · iexact Hx
    isplitl [Hw]; · iexact Hw
    isplitl [Hb]
    · iapply (show (ownsTc c wbM fullShare (W c) : sProp 𝕄) ⊢ wbRes W c true from Entails.refl _)
      iapply (owns_full' (c : Thread nD τ) wbM fullShare (Rect.unit (s := mat 128 1024) ![0, 0] ![128, 1024] inb) (fun _ => rfl) hall (W c))
      rw [show (fun j => W c ((Rect.unit (s := mat 128 1024) ![0, 0] ![128, 1024] inb).emb j)) = W c from funext fun j => hid (W c) j]
      iexact Hb
    iexact Hp
  · iexact HT

theorem mem_piece {b : Fin 8} (x : (mat 1024 128).Idx) : x ∈ (pieceR b).set ↔ (x 0).val / 128 = b.val := by
  rw [mem_box]
  have : (x 1).val < 128 := (x 1).isLt
  omega

theorem all_rows : (box 1024 128 0 0 1024 128 (inb_of (by omega) (by omega))).set = Finset.univ := by
  ext x
  have h0 : (x 0).val < 1024 := (x 0).isLt
  have h1 : (x 1).val < 128 := (x 1).isLt
  exact ⟨fun _ => Finset.mem_univ _, fun _ => (mem_box x).mpr (by omega)⟩

theorem pieces_disjoint (t t' : Fin 8) (htt : t ≠ t') : Disjoint (pieceR t).set (pieceR t').set :=
  Finset.disjoint_left.mpr fun x hx hy => htt (Fin.ext (by rw [mem_piece] at hx hy; exact hx.symm.trans hy))

theorem pieces_cover (x : (mat 1024 128).Idx) :
    x ∈ (box 1024 128 0 0 1024 128 (inb_of (by omega) (by omega))).set ↔ ∃ t : Fin 8, x ∈ (pieceR t).set := by
  rw [all_rows]
  simp only [Finset.mem_univ, true_iff, mem_piece]
  exact ⟨⟨(x 0).val / 128, by have : (x 0).val < 1024 := (x 0).isLt; omega⟩, rfl⟩

/-- All 24 blocks copied. -/
theorem ready_intro : (Pre X W c true 24 : sProp 𝕄) ⊢ Ready X W c := by
  unfold Pre Ready
  iintro ⟨Hx, Hw, Hwb, Hp⟩
  isplitl [Hx]; · iexact Hx
  isplitl [Hw]; · iexact Hw
  isplitl [Hwb]
  · iapply (show wbRes W c true ⊢ (ownsTc c wbM fullShare (W c) : sProp 𝕄) from Entails.refl _); iexact Hwb
  iapply (show (bigSep Finset.univ fun x => pieceRes X c x (copied 24 x)) ⊢ (bigSep Finset.univ fun g => ownsTc c (xgM g) fullShare (xrows X g c) : sProp 𝕄) from by
    rw [bigSep_univ_prod]
    refine bigSep_mono fun g _ => ?_
    refine (Entails.of_eq (bigSep_congr fun b _ => by
      rw [show copied 24 (g, b) = true from decide_eq_true (by have := g.isLt; have := b.isLt; show 8 * g.val + b.val < 24; omega)]; rfl)).trans
      (owns_whole_join (c : Thread nD τ) (xgM g) fullShare (box 1024 128 0 0 1024 128 (inb_of (by omega) (by omega)))
        pieceR (fun _ _ => rfl) pieces_disjoint pieces_cover all_rows (xrows X g c) (fun b => pieceV X g b c) fun _ _ => rfl))
  iexact Hp

/-- Reading half of the rows of a group. -/
theorem see_rows {g : Fin 3} {h : Fin 2} {o : Fin 2 → ℕ} (ho : o = at512 (hf h g c))
    {inb : ∀ a, o a + (![512, 128] : Fin 2 → ℕ) a ≤ (mat 1024 128).size a}
    {hl : (xgM g).view.LoadsAt (Rect.unit (s := mat 1024 128) o ![512, 128] inb).toLoadRect}
    {k : Vec F (mat 512 128) .bf16 → Prog (TpuEff nD τ sig (Elt F) Λ₀ .tc) α}
    (hk : iprop(Ready X W c ∗ T) ⊢ run c (k (xhalf X g c ⟨hf h g c, hf_lt h g c⟩)) Q) :
    iprop(Ready X W c ∗ T) ⊢ run c (.op (.load (xgM g) (Rect.unit (s := mat 1024 128) o ![512, 128] inb).toLoadRect hl) k) Q := by
  subst ho
  iintro ⟨HR, HT⟩
  unfold Ready
  icases HR with ⟨Hx, Hw, Hwb, Hp⟩
  ihave Hp' := (bigSep_look (fun g => ownsTc c (xgM g) fullShare (xrows X g c)) g) $$ Hp
  icases Hp' with ⟨Hb, Hback⟩
  iapply (own_load 𝒱₀ (c : Thread nD τ) none Set.univ (m := xgM g) (X := xrows X g c)) $$ [Hb]
  · iexact Hb
  iintro Hb
  rw [show (fun j => xrows X g c ((Rect.unit (s := mat 1024 128) (at512 (hf h g c)) ![512, 128] inb).toLoadRect.idx j))
    = xhalf X g c ⟨hf h g c, hf_lt h g c⟩ from by
      funext j
      show _ = xrows X g c _
      congr 1
      funext a
      match a with
      | 0 => exact Fin.ext (by show 512 * hf h g c + 1 * (j 0).val = 512 * hf h g c + (j 0).val; omega)
      | 1 => exact Fin.ext (by show 0 + 1 * (j 1).val = (j 1).val; omega)]
  iapply hk
  isplitr [HT]
  · unfold Ready
    isplitl [Hx]; · iexact Hx
    isplitl [Hw]; · iexact Hw
    isplitl [Hwb]; · iexact Hwb
    iapply Hback; iexact Hb
  · iexact HT

/-- Reading the columns of a group. -/
theorem see_cols {g : Fin 3} {o : Fin 2 → ℕ} (ho : o = ![0, 384 * g.val])
    {inb : ∀ a, o a + (![128, width g] : Fin 2 → ℕ) a ≤ (mat 128 1024).size a}
    {hl : wbM.view.LoadsAt (Rect.unit (s := mat 128 1024) o ![128, width g] inb).toLoadRect}
    {k : Vec F (mat 128 (width g)) .bf16 → Prog (TpuEff nD τ sig (Elt F) Λ₀ .tc) α}
    (hk : iprop(Ready X W c ∗ T) ⊢ run c (k (wcols W g c)) Q) :
    iprop(Ready X W c ∗ T) ⊢ run c (.op (.load wbM (Rect.unit (s := mat 128 1024) o ![128, width g] inb).toLoadRect hl) k) Q := by
  subst ho
  iintro ⟨HR, HT⟩
  unfold Ready
  icases HR with ⟨Hx, Hw, Hwb, Hp⟩
  iapply (own_load 𝒱₀ (c : Thread nD τ) none Set.univ (m := wbM) (X := W c)) $$ [Hwb]
  · iexact Hwb
  iintro Hb
  rw [show (fun j => W c ((Rect.unit (s := mat 128 1024) ![0, 384 * g.val] ![128, width g] inb).toLoadRect.idx j)) = wcols W g c from by
      funext j
      show _ = W c _
      congr 1
      funext a
      match a with
      | 0 => exact Fin.ext (by show 0 + 1 * (j 0).val = (j 0).val; omega)
      | 1 => exact Fin.ext (by show 384 * g.val + 1 * (j 1).val = 384 * g.val + (j 1).val; omega)]
  iapply hk
  isplitr [HT]
  · unfold Ready
    isplitl [Hx]; · iexact Hx
    isplitl [Hw]; · iexact Hw
    isplitl [Hb]; · iexact Hb
    iexact Hp
  · iexact HT

end Cert.KProof
-- ==== Proof.Buffers.lean ====
/-
# The buffers, whole and in pieces

Before the body the buffers of a device are held whole, at whatever they contain. The body takes them in pieces: halves
and blocks of the partial sums, blocks of rows, landing blocks, the columns of the groups. Here they come apart, and go
together again at the end.
-/
module

public import proofs.«01_k».proof.Proof.Fill
public import Idealize.ShloMosaic.Lib.Pipeline.Cells

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A memref held at whatever it contains. -/
abbrev held (c : Dev nD) {s : Shape} {e : EltTy} (m : Memref sig .tc .vmem s e) : sProp 𝕄 := iprop(∃ Y, ownsTc c m fullShare Y)

section Boxes

variable (c : Dev nD) {sh : Shape} {e : EltTy} (m : Memref sig .tc .vmem sh e) {T : Type} [Fintype T] [DecidableEq T]
  (r : T → Rect sh) (hr : ∀ t a, (r t).stride a = 1) (hd : ∀ t t', t ≠ t' → Disjoint (r t).set (r t').set)
  (hcov : (Finset.univ : Finset T).biUnion (fun t => (r t).set) = Finset.univ)

include hd hcov in
/-- Disjoint boxes that cover a memref are held with it. -/
theorem held_split : held (F := F) c m ⊢ bigSep Finset.univ fun t => held c (m.slice (r t) (hr t)) := by
  iintro ⟨%Y, H⟩
  iapply (show (bigSep Finset.univ fun t => ownsTc c (m.slice (r t) (hr t)) fullShare (fun j => Y ((r t).emb j)) : sProp 𝕄)
      ⊢ bigSep Finset.univ fun t => held c (m.slice (r t) (hr t)) from bigSep_mono fun t _ => by
    show (ownsTc c (m.slice (r t) (hr t)) fullShare (fun j => Y ((r t).emb j)) : sProp 𝕄) ⊢ held c (m.slice (r t) (hr t))
    iintro H; iexists _; iexact H)
  iapply (owns_rects (c : Thread nD τ) m fullShare r hr hd hcov Y)
  iexact H

include hd hcov in
/-- And it with them. -/
theorem held_join : (bigSep Finset.univ fun t => held c (m.slice (r t) (hr t))) ⊢ held (F := F) c m := by
  refine (Idealize.SL.BI.bigSep_exists_pi Finset.univ (fun t Y => ownsTc c (m.slice (r t) (hr t)) fullShare Y)).trans ?_
  iintro ⟨%Y, H⟩
  obtain ⟨X, hX⟩ := exists_glue (Val := Elt F) r hd Y
  iexists X
  iapply (owns_of_rects (c : Thread nD τ) m fullShare r hr hd hcov X)
  iapply (show (bigSep Finset.univ fun t => ownsTc c (m.slice (r t) (hr t)) fullShare (Y t) : sProp 𝕄) ⊢ _ from
    Entails.of_eq (bigSep_congr fun t _ => by rw [← funext (hX t)]))
  iexact H

end Boxes

theorem cover_of {sh : Shape} {T : Type} [Fintype T] {r : T → Rect sh} (h : ∀ x, ∃ t, x ∈ (r t).set) :
    (Finset.univ : Finset T).biUnion (fun t => (r t).set) = Finset.univ := by
  ext x
  simpa using h x

/-! ## The partial sums -/

theorem halves_disjoint (g : Fin 3) (c : Dev nD) (h h' : Fin 2) (hh : h ≠ h') :
    Disjoint (halfR g (hf h g c) (hf_lt h g c)).set (halfR g (hf h' g c) (hf_lt h' g c)).set :=
  Finset.disjoint_left.mpr fun x hx hy => by
    rw [mem_half] at hx hy
    exact (show ∀ h h' : Fin 2, h ≠ h' → ∀ g c, hf h g c ≠ hf h' g c by decide +kernel) h h' hh g c (hx.symm.trans hy)

theorem halves_cover (g : Fin 3) (c : Dev nD) (x : (mat 1024 (width g)).Idx) : ∃ h, x ∈ (halfR g (hf h g c) (hf_lt h g c)).set := by
  have hx : (x 0).val < 1024 := (x 0).isLt
  obtain ⟨h, hh⟩ := (show ∀ k : Fin 2, ∀ g c, ∃ h, hf h g c = k.val by decide +kernel) ⟨(x 0).val / 512, by omega⟩ g c
  exact ⟨h, (mem_half x).mpr hh.symm⟩

theorem sums_enter (c : Dev nD) : (bigSep Finset.univ fun g => held c (pM g)) ⊢ (bigSep Finset.univ fun x => rawRes c x true : sProp 𝕄) := by
  rw [bigSep_univ_prod]
  exact bigSep_mono fun g _ => held_split c (pM g) (fun h => halfR g (hf h g c) (hf_lt h g c)) (fun _ _ => rfl)
    (halves_disjoint g c) (cover_of (halves_cover g c))

theorem blocks_disjoint (g : Fin 3) (c : Dev nD) (j j' : Fin 8) (hj : j ≠ j') :
    Disjoint (blockR g (row g j c)).set (blockR g (row g j' c)).set :=
  Finset.disjoint_left.mpr fun x hx hy => hj (row_injective g c (Fin.ext (by rw [mem_block] at hx hy; exact hx.symm.trans hy)))

theorem blocks_cover (g : Fin 3) (c : Dev nD) (x : (mat 1024 (width g)).Idx) : ∃ j, x ∈ (blockR g (row g j c)).set := by
  have hx : (x 0).val < 1024 := (x 0).isLt
  obtain ⟨j, hj⟩ := (Finite.injective_iff_surjective.mp (row_injective g c)) ⟨(x 0).val / 128, by omega⟩
  exact ⟨j, (mem_block x).mpr (congrArg Fin.val hj).symm⟩

theorem sums_leave (c : Dev nD) :
    (bigSep Finset.univ fun x : Fin 3 × Fin 8 => held c (blockM x.1 (row x.1 x.2 c))) ⊢ (bigSep Finset.univ fun g => held c (pM g) : sProp 𝕄) := by
  rw [bigSep_univ_prod]
  exact bigSep_mono fun g _ => held_join c (pM g) (fun j => blockR g (row g j c)) (fun _ _ => rfl)
    (blocks_disjoint g c) (cover_of (blocks_cover g c))

/-! ## The rows -/

theorem rows_enter (X : Dev nD → Vec F S1024x128 .bf16) (c : Dev nD) :
    (bigSep Finset.univ fun g => held c (xgM g)) ⊢ (bigSep Finset.univ fun x => pieceRes X c x (copied 0 x) : sProp 𝕄) := by
  rw [bigSep_univ_prod]
  refine bigSep_mono fun g _ => (held_split c (xgM g) pieceR (fun _ _ => rfl) pieces_disjoint (cover_of fun x => ?_)).trans
    (Entails.of_eq (bigSep_congr fun b _ => by
      rw [show copied 0 (g, b) = false from decide_eq_false (Nat.not_lt_zero _)]; rfl))
  exact (pieces_cover x).mp (by rw [all_rows]; exact Finset.mem_univ x)

/-! ## The landing blocks -/

/-- The copies of an exchange. -/
abbrev Of (s : Fin 3) : Type := {i : Fin 7 // stage i = s}

/-- Where copy `i` lands on device `c`, as a box of the exchange's buffer. -/
abbrev landR (g s : Fin 3) (c : Dev nD) (i : Of s) : Rect (mat (128 * parts s) (width g)) :=
  box (128 * parts s) (width g) (128 * slot g i.1 (peer g i.1 c)) 0 128 (width g)
    (inb_of (by have := slot_lt g i.1 (peer g i.1 c); rw [i.2] at this; omega) (by omega))

theorem mem_land {g s : Fin 3} {c : Dev nD} {i : Of s} (x : (mat (128 * parts s) (width g)).Idx) :
    x ∈ (landR g s c i).set ↔ (x 0).val / 128 = slot g i.1 (peer g i.1 c) := by
  rw [mem_box]
  have : (x 1).val < width g := (x 1).isLt
  omega

theorem lands_disjoint (g s : Fin 3) (c : Dev nD) (i i' : Of s) (hi : i ≠ i') : Disjoint (landR g s c i).set (landR g s c i').set :=
  Finset.disjoint_left.mpr fun x hx hy => by
    rw [mem_land] at hx hy
    exact hi (Subtype.ext ((show ∀ i i' : Fin 7, stage i = stage i' → ∀ g c, slot g i (peer g i c) = slot g i' (peer g i' c) → i = i' by
      decide +kernel) i.1 i'.1 (i.2.trans i'.2.symm) g c (hx.symm.trans hy)))

theorem lands_cover (g s : Fin 3) (c : Dev nD) (x : (mat (128 * parts s) (width g)).Idx) : ∃ i, x ∈ (landR g s c i).set := by
  have hx : (x 0).val < 128 * parts s := (x 0).isLt
  obtain ⟨i, hi, h⟩ := (show ∀ s : Fin 3, ∀ k : Fin (parts s), ∀ g c, ∃ i, stage i = s ∧ slot g i (peer g i c) = k.val by decide +kernel)
    s ⟨(x 0).val / 128, by omega⟩ g c
  exact ⟨⟨i, hi⟩, (mem_land x).mpr h.symm⟩

theorem land_held (g s : Fin 3) (c : Dev nD) (i : Of s) :
    (held c ((rvM g s).slice (landR g s c i) fun _ => rfl) : sProp 𝕄) = held c (slotM g i.1 (peer g i.1 c)) := by
  obtain ⟨i, rfl⟩ := i
  rfl

/-- The landing blocks of all the copies, sorted by buffer. -/
theorem slots_eq (c : Dev nD) : (bigSep Finset.univ fun x : Fin 3 × Fin 7 => (held c (slotM x.1 x.2 (peer x.1 x.2 c)) : sProp 𝕄))
    = bigSep Finset.univ fun g : Fin 3 => bigSep Finset.univ fun s : Fin 3 => bigSep Finset.univ fun i : Of s =>
        held c ((rvM g s).slice (landR g s c i) fun _ => rfl) := by
  rw [bigSep_univ_prod]
  refine bigSep_congr fun g _ => ?_
  rw [bigSep_univ_equiv (Equiv.sigmaFiberEquiv stage) (fun i : Fin 7 => (held c (slotM g i (peer g i c)) : sProp 𝕄)),
    Pipeline.bigSep_univ_sigma]
  exact bigSep_congr fun s _ => bigSep_congr fun i _ => (land_held g s c i).symm

theorem slots_enter (c : Dev nD) : (bigSep Finset.univ fun g : Fin 3 => bigSep Finset.univ fun s : Fin 3 => held c (rvM g s))
    ⊢ (bigSep Finset.univ fun x : Fin 3 × Fin 7 => held c (slotM x.1 x.2 (peer x.1 x.2 c)) : sProp 𝕄) := by
  rw [slots_eq]
  exact bigSep_mono fun g _ => bigSep_mono fun s _ => held_split c (rvM g s) (landR g s c) (fun _ _ => rfl)
    (lands_disjoint g s c) (cover_of (lands_cover g s c))

theorem slots_leave (c : Dev nD) : (bigSep Finset.univ fun x : Fin 3 × Fin 7 => held c (slotM x.1 x.2 (peer x.1 x.2 c)))
    ⊢ (bigSep Finset.univ fun g : Fin 3 => bigSep Finset.univ fun s : Fin 3 => held c (rvM g s) : sProp 𝕄) := by
  rw [slots_eq]
  exact bigSep_mono fun g _ => bigSep_mono fun s _ => held_join c (rvM g s) (landR g s c) (fun _ _ => rfl)
    (lands_disjoint g s c) (cover_of (lands_cover g s c))

/-- The landing blocks on a device are what it hands its neighbours. -/
theorem tells_enter (c : Dev nD) : (bigSep Finset.univ fun x : Fin 3 × Fin 7 => held c (slotM x.1 x.2 (peer x.1 x.2 c)))
    ⊢ (bigSep Finset.univ fun d : Fin 3 => barPay d (peer d 0 c) : sProp 𝕄) := by
  unfold barPay
  rw [← bigSep_univ_prod (fun x : Fin 3 × Fin 7 => (land (F := F) (x.1 - stage x.2) x.2 (peer x.1 0 c) : sProp 𝕄)),
    bigSep_univ_equiv turn (fun x : Fin 3 × Fin 7 => (held c (slotM x.1 x.2 (peer x.1 x.2 c)) : sProp 𝕄))]
  refine bigSep_mono fun x _ => ?_
  have e : peer x.1 0 c = peer (x.1 - stage x.2) x.2 c := by
    rw [← peer_axis (x.1 - stage x.2) x.2 c, show x.1 - stage x.2 + stage x.2 = x.1 by revert x; decide]
  show (held c (slotM (x.1 - stage x.2) x.2 (peer (x.1 - stage x.2) x.2 c)) : sProp 𝕄) ⊢ land (x.1 - stage x.2) x.2 (peer x.1 0 c)
  unfold land
  rw [e, peer_peer]

/-! ## The result -/

theorem mem_out {g : Fin 3} (x : (mat 128 1024).Idx) : x ∈ (outR g).set ↔ min 2 ((x 1).val / 384) = g.val := by
  rw [mem_box]
  have h0 : (x 0).val < 128 := (x 0).isLt
  have h1 : (x 1).val < 1024 := (x 1).isLt
  fin_cases g <;> simp only [width] <;> omega

theorem outs_disjoint (g g' : Fin 3) (h : g ≠ g') : Disjoint (outR g).set (outR g').set :=
  Finset.disjoint_left.mpr fun x hx hy => h (Fin.ext (by rw [mem_out] at hx hy; exact hx.symm.trans hy))

theorem outs_cover (x : (mat 128 1024).Idx) : ∃ g, x ∈ (outR g).set := ⟨⟨min 2 ((x 1).val / 384), by omega⟩, (mem_out x).mpr rfl⟩

variable (X : Dev nD → Vec F S1024x128 .bf16) (W : Dev nD → Vec F S128x1024 .bf16)

theorem result_enter (c : Dev nD) : held c oM ⊢ (bigSep Finset.univ fun g => outRes X W c g false : sProp 𝕄) :=
  held_split c oM outR (fun _ _ => rfl) outs_disjoint (cover_of outs_cover)

theorem outV_at (g : Fin 3) (c : Dev nD) (j : (mat 128 (width g)).Idx) : outV X W c ((outR g).emb j) = outG X W g c j := by
  have h0 : (j 0).val < 128 := (j 0).isLt
  have h1 : (j 1).val < width g := (j 1).isLt
  have e0 : ((outR g).emb j 0).val = 0 + (j 0).val := box_emb j 0
  have e1 : ((outR g).emb j 1).val = 384 * g.val + (j 1).val := box_emb j 1
  have hg : min 2 (((outR g).emb j 1).val / 384) = g.val := (mem_out _).mp (emb_mem (outR g) j)
  unfold outV
  have key (g' : Fin 3) (hg' : g' = g) (a : Fin 128) (ha : a.val = (j 0).val) (b : Fin (width g')) (hb : b.val = (j 1).val) :
      outG X W g' c (at2 a b) = outG X W g c j := by
    subst hg'
    congr 1
    funext k
    match k with
    | 0 => exact Fin.ext ha
    | 1 => exact Fin.ext hb
  exact key _ (Fin.ext hg) _ (by rw [e0, Nat.zero_add]) _ (by
    show ((outR g).emb j 1).val - 384 * min 2 (((outR g).emb j 1).val / 384) = _
    rw [hg, e1]; omega)

theorem result_leave (c : Dev nD) : (bigSep Finset.univ fun g => outRes X W c g true) ⊢ (ownsTc c oM fullShare (outV X W c) : sProp 𝕄) :=
  (Entails.of_eq (bigSep_congr fun g _ => by
    show (ownsTc c (outM g) fullShare (outG X W g c) : sProp 𝕄) = ownsTc c (oM.slice (outR g) fun _ => rfl) fullShare fun j => outV X W c ((outR g).emb j)
    rw [show (fun j => outV X W c ((outR g).emb j)) = outG X W g c from funext (outV_at X W g c)])).trans
    (owns_of_rects (c : Thread nD τ) oM fullShare outR (fun _ _ => rfl) outs_disjoint (cover_of outs_cover) (outV X W c))

end Cert.KProof
-- ==== Proof.Plan.lean ====
/-
# The order of events

Which events each part of the program performs, and the rules of the exchange at the printed offsets.
-/
module

public import proofs.«01_k».proof.Proof.Fill
public import Idealize.ShloMosaic.Lib.Pipeline.Value

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The parts' operands -/

/-- A part of the body, still to be given its buffers. -/
abbrev Part (β : Type 1) : Type 1 :=
  (arg0 : Memref sig .tc .vmem S1024x128 .bf16) → arg0.IsWhole → (arg1 : Memref sig .tc .vmem S128x1024 .bf16) → arg1.IsWhole
  → (arg2 : Memref sig .tc .vmem S128x1024 .f32) → arg2.IsWhole → (arg3 : Memref sig .tc .vmem S1024x384 .bf16) → arg3.IsWhole
  → (arg4 : Memref sig .tc .vmem S1024x384 .bf16) → arg4.IsWhole → (arg5 : Memref sig .tc .vmem S1024x256 .bf16) → arg5.IsWhole
  → (arg6 : Memref sig .tc .vmem S1024x128 .bf16) → arg6.IsWhole → (arg7 : Memref sig .tc .vmem S1024x128 .bf16) → arg7.IsWhole
  → (arg8 : Memref sig .tc .vmem S1024x128 .bf16) → arg8.IsWhole → (arg9 : Memref sig .tc .vmem S128x1024 .bf16) → arg9.IsWhole
  → (arg10 : Memref sig .tc .vmem S512x384 .bf16) → arg10.IsWhole → (arg11 : Memref sig .tc .vmem S256x384 .bf16) → arg11.IsWhole
  → (arg12 : Memref sig .tc .vmem S128x384 .bf16) → arg12.IsWhole → (arg13 : Memref sig .tc .vmem S512x384 .bf16) → arg13.IsWhole
  → (arg14 : Memref sig .tc .vmem S256x384 .bf16) → arg14.IsWhole → (arg15 : Memref sig .tc .vmem S128x384 .bf16) → arg15.IsWhole
  → (arg16 : Memref sig .tc .vmem S512x256 .bf16) → arg16.IsWhole → (arg17 : Memref sig .tc .vmem S256x256 .bf16) → arg17.IsWhole
  → (arg18 : Memref sig .tc .vmem S128x256 .bf16) → arg18.IsWhole → DmaSems sig S3x7 → DmaSems sig S3x7 → β

/-- The part on the buffers the call gives it. -/
abbrev onArgs {β : Type 1} (p : Part β) : β :=
  p xM (Memref.isWhole_whole _) wM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    wbM (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    (Memref.whole cc0_scratch14) (Memref.isWhole_whole _) (Memref.whole cc0_scratch15) (Memref.isWhole_whole _)
    cc0_scratch16 cc0_scratch17

/-! ## The events -/

open Ev in
/-- The events of each part of the body; the body's own are the last. -/
def events : ℕ → List Ev
  | 2 => [tell 0, tell 1, tell 2]
  | 7 => [prod 0 0]
  | 8 => [prod 1 0, prod 2 0, meet]
  | 9 => [send 0 0, send 0 1, send 0 2]
  | 10 => [send 0 3, send 1 0]
  | 11 => [send 1 1, send 1 2, send 1 3]
  | 12 => [send 2 0, send 2 1]
  | 13 => [send 2 2, send 2 3, prod 0 1]
  | 14 => [prod 1 1, prod 2 1, freed 0 0, came 0 0]
  | 15 => [acc 0 0, send 0 4, freed 1 0]
  | 16 => [came 1 0, acc 1 0]
  | 17 => [send 1 4, freed 2 0, came 2 0, acc 2 0]
  | 18 => [send 2 4, freed 0 1, came 0 1]
  | 19 => [acc 0 1, send 0 5, freed 1 1]
  | 20 => [came 1 1, acc 1 1, send 1 5]
  | 21 => [freed 2 1, came 2 1, acc 2 1]
  | 22 => [send 2 5, freed 0 2, came 0 2]
  | 23 => [acc 0 2, freed 1 2, came 1 2, acc 1 2]
  | 24 => [freed 2 2, came 2 2, acc 2 2, freed 0 4]
  | 25 => [came 0 4, acc 0 4, send 0 6, freed 1 4]
  | 26 => [came 1 4, acc 1 4, send 1 6]
  | 27 => [freed 2 4, came 2 4, acc 2 4, send 2 6]
  | 28 => [freed 0 3, came 0 3, acc 0 3, freed 1 3]
  | 29 => [came 1 3, acc 1 3, freed 2 3, came 2 3]
  | 30 => [acc 2 3, freed 0 5, came 0 5]
  | 31 => [acc 0 5, freed 1 5, came 1 5, acc 1 5]
  | 32 => [freed 2 5, came 2 5, acc 2 5, freed 0 6]
  | 33 => [came 0 6, fin 0, freed 1 6, came 1 6, fin 1]
  | 34 => [freed 2 6]
  | 35 => [came 2 6, fin 2]
  | _ => []

/-- Where a device stands when a part begins. -/
def stateAt : ℕ → Stand
  | 0 => start
  | n + 1 => (events n).foldl Stand.step (stateAt n)

/-! ## The rules at the printed offsets -/

variable {X : Dev nD → Vec F S1024x128 .bf16} {W : Dev nD → Vec F S128x1024 .bf16}
variable {c : Dev nD} {σ : Stand} {R : sProp (MT nD τ sig Unit (Elt F) ℕ UU ℕ)} {α : Type}
  {Q : α → sProp (MT nD τ sig Unit (Elt F) ℕ UU ℕ)}

theorem done {a : α} (h : R ⊢ Q a) : R ⊢ run c (.ret a) Q := by
  refine h.trans (show Q a ⊢ iprop(|={Set.univ}[frame]=> Q a) from ?_)
  iintro H; imodintro; iexact H

/-- Reading a block and what arrived for it, and storing their sum. -/
theorem step_add (g : Fin 3) (i : Fin 7)
    {pay : Vec F (mat 128 (width g)) .bf16 → Vec F (mat 128 (width g)) .bf16 → Vec F (mat 128 (width g)) .bf16}
    (hv : ∀ a b, pay a b = addB a b)
    {inb inb'' inb''' : ∀ a, accOff g i c a + (![128, width g] : Fin 2 → ℕ) a ≤ (mat 1024 (width g)).size a}
    {inb' : ∀ a, gotOff g i c a + (![128, width g] : Fin 2 → ℕ) a ≤ (mat (128 * parts (stage i)) (width g)).size a}
    {hl : (pM g).view.LoadsAt (Rect.unit (s := mat 1024 (width g)) (accOff g i c) ![128, width g] inb).toLoadRect}
    {hl' : (rvM g (stage i)).view.LoadsAt (Rect.unit (s := mat (128 * parts (stage i)) (width g)) (gotOff g i c) ![128, width g] inb').toLoadRect}
    {hl'' : (pM g).view.LoadsAt (Rect.unit (s := mat 1024 (width g)) (accOff g i c) ![128, width g] inb'').toLoadRect}
    {hx : ((pM g).access (Rect.unit (s := mat 1024 (width g)) (accOff g i c) ![128, width g] inb''')).Stores Finset.univ}
    {hm : Finset.univ = Finset.univ ∨ ∀ a, (Rect.unit (s := mat 1024 (width g)) (accOff g i c) ![128, width g] inb''').stride a = 1}
    {k : PUnit → Prog (TpuEff nD τ sig (Elt F) Λ₀ .tc) α}
    (hk : iprop(R ∗ At X W c (σ.step (.acc g i))) ⊢ run c (k ⟨⟩) Q)
    (hσ : σ.blk (g, target i) = some ((stage i).val + 1) := by decide +kernel) (hp : σ.ph (g, i) = 4 := by decide +kernel) :
    iprop(R ∗ At X W c σ) ⊢ run c
      (.op (.load (pM g) (Rect.unit (s := mat 1024 (width g)) (accOff g i c) ![128, width g] inb).toLoadRect hl) fun a =>
      .op (.load (rvM g (stage i)) (Rect.unit (s := mat (128 * parts (stage i)) (width g)) (gotOff g i c) ![128, width g] inb').toLoadRect hl') fun b =>
      .op (.load (pM g) (Rect.unit (s := mat 1024 (width g)) (accOff g i c) ![128, width g] inb'').toLoadRect hl'') fun _ =>
      .op (.store (pM g) (Rect.unit (s := mat 1024 (width g)) (accOff g i c) ![128, width g] inb''') (pay a b) Finset.univ hx hm) k) Q :=
  step_load (accOff_eq g i c) hσ (step_got (gotOff_eq g i c) hp (step_load (accOff_eq g i c) hσ
    (step_acc (accOff_eq g i c) hσ (hv _ _) hk)))

/-- Reading the last block and the last arrival, and storing their sum as the result. -/
theorem step_result (g : Fin 3)
    {pay : Vec F (mat 128 (width g)) .bf16 → Vec F (mat 128 (width g)) .bf16 → Vec F (mat 128 (width g)) .f32}
    (hv : ∀ a b, pay a b = addW a b) {o : Fin 2 → ℕ} (ho' : o = ![0, 384 * g.val])
    {inb : ∀ a, accOff g 6 c a + (![128, width g] : Fin 2 → ℕ) a ≤ (mat 1024 (width g)).size a}
    {inb' : ∀ a, gotOff g 6 c a + (![128, width g] : Fin 2 → ℕ) a ≤ (mat (128 * parts (stage 6)) (width g)).size a}
    {inb'' inb''' : ∀ a, o a + (![128, width g] : Fin 2 → ℕ) a ≤ (mat 128 1024).size a}
    {hl : (pM g).view.LoadsAt (Rect.unit (s := mat 1024 (width g)) (accOff g 6 c) ![128, width g] inb).toLoadRect}
    {hl' : (rvM g (stage 6)).view.LoadsAt (Rect.unit (s := mat (128 * parts (stage 6)) (width g)) (gotOff g 6 c) ![128, width g] inb').toLoadRect}
    {hl'' : oM.view.LoadsAt (Rect.unit (s := mat 128 1024) o ![128, width g] inb'').toLoadRect}
    {hx : (oM.access (Rect.unit (s := mat 128 1024) o ![128, width g] inb''')).Stores Finset.univ}
    {hm : Finset.univ = Finset.univ ∨ ∀ a, (Rect.unit (s := mat 128 1024) o ![128, width g] inb''').stride a = 1}
    {k : PUnit → Prog (TpuEff nD τ sig (Elt F) Λ₀ .tc) α}
    (hk : iprop(R ∗ At X W c (σ.step (.fin g))) ⊢ run c (k ⟨⟩) Q)
    (hσ : σ.blk (g, 7) = some 3 := by decide +kernel) (hp : σ.ph (g, 6) = 4 := by decide +kernel) (ho : σ.out g = false := by decide +kernel) :
    iprop(R ∗ At X W c σ) ⊢ run c
      (.op (.load (pM g) (Rect.unit (s := mat 1024 (width g)) (accOff g 6 c) ![128, width g] inb).toLoadRect hl) fun a =>
      .op (.load (rvM g (stage 6)) (Rect.unit (s := mat (128 * parts (stage 6)) (width g)) (gotOff g 6 c) ![128, width g] inb').toLoadRect hl') fun b =>
      .op (.load oM (Rect.unit (s := mat 128 1024) o ![128, width g] inb'').toLoadRect hl'') fun _ =>
      .op (.store oM (Rect.unit (s := mat 128 1024) o ![128, width g] inb''') (pay a b) Finset.univ hx hm) k) Q :=
  step_load (j := 7) (n := 2) (accOff_eq g 6 c) hσ (step_got (gotOff_eq g 6 c) hp (step_seeOut ho' ho fun _ => step_fin ho' ho (hv _ _) hk))

/-- Starting a copy at its printed offsets. -/
theorem do_send (g : Fin 3) (i : Fin 7)
    {n : Dev nD}
    {inb : ∀ a, srcOff g i c a + (![128, width g] : Fin 2 → ℕ) a ≤ (mat 1024 (width g)).size a}
    {inb' : ∀ a, dstOff g i c a + (![128, width g] : Fin 2 → ℕ) a ≤ (mat (128 * parts (stage i)) (width g)).size a}
    {hsc : ((rvM g (stage i)).slice (Rect.unit (s := mat (128 * parts (stage i)) (width g)) (dstOff g i c) ![128, width g] inb') (fun _ => rfl) :
      Memref sig (Dev.tc n : Thread nD τ).2.kind .vmem (mat 128 (width g)) .bf16).view.ref.isScScratch = false}
    {hsrc : ((pM g).slice (Rect.unit (s := mat 1024 (width g)) (srcOff g i c) ![128, width g] inb) fun _ => rfl).view.WordExact}
    {hdst : ((rvM g (stage i)).slice (Rect.unit (s := mat (128 * parts (stage i)) (width g)) (dstOff g i c) ![128, width g] inb') fun _ => rfl).view.WordExact}
    {hsem : DmaTarget.Typed .vmem (.dma (dsem 1 g i)) (.remote (Dev.tc n : Thread nD τ)
      ((rvM g (stage i)).slice (Rect.unit (s := mat (128 * parts (stage i)) (width g)) (dstOff g i c) ![128, width g] inb') (fun _ => rfl) :
        Memref sig (Dev.tc n : Thread nD τ).2.kind .vmem (mat 128 (width g)) .bf16) (.dma (dsem 0 g i)) hsc)}
    {k : PUnit → Prog (TpuEff nD τ sig (Elt F) Λ₀ .tc) α}
    (hk : iprop(R ∗ At X W c (σ.step (.send g i))) ⊢ run c (k ⟨⟩) Q)
    (hσ : σ.ph (g, i) = 1 := by decide +kernel) (hb : σ.blk (g, i.castSucc) = some ((stage i).val + 1) := by decide +kernel) (hn : n.val = dstDev g i c := by rfl) :
    iprop(R ∗ At X W c σ) ⊢ run c (.op (.enqueueDma ((pM g).slice (Rect.unit (s := mat 1024 (width g)) (srcOff g i c) ![128, width g] inb) fun _ => rfl)
      (.remote (Dev.tc n : Thread nD τ)
        ((rvM g (stage i)).slice (Rect.unit (s := mat (128 * parts (stage i)) (width g)) (dstOff g i c) ![128, width g] inb') (fun _ => rfl) :
        Memref sig (Dev.tc n : Thread nD τ).2.kind .vmem (mat 128 (width g)) .bf16) (.dma (dsem 0 g i)) hsc)
      (.dma (dsem 1 g i)) hsrc hdst hsem) k) Q :=
  step_send (srcOff_eq g i c) (dstOff_eq g i c) (Fin.ext (hn.trans (dstDev_eq g i c))) hσ hb hk

theorem N_block_at {g : Fin 3} {r : Fin 8} {o : Fin 2 → ℕ} (ho : o = at128 r.val)
    {inb : ∀ a, o a + (![128, width g] : Fin 2 → ℕ) a ≤ (mat 1024 (width g)).size a} :
    ((pM g).slice (Rect.unit (s := mat 1024 (width g)) o ![128, width g] inb) fun _ => rfl).view.dmaCredit = N g := by
  subst ho; exact N_block g r
theorem N_slot_at {g : Fin 3} {i : Fin 7} {n : Dev nD} {o : Fin 2 → ℕ} (ho : o = at128 (slot g i n))
    {inb : ∀ a, o a + (![128, width g] : Fin 2 → ℕ) a ≤ (mat (128 * parts (stage i)) (width g)).size a} :
    ((rvM g (stage i)).slice (Rect.unit (s := mat (128 * parts (stage i)) (width g)) o ![128, width g] inb) fun _ => rfl).view.dmaCredit = N g := by
  subst ho; exact N_slot g i n

/-- The wait for a send at its printed offset. -/
theorem do_freed (g : Fin 3) (i : Fin 7)
    {sp : Space} {s : Shape} {e : EltTy} {m₁ : Memref sig .tc sp s e}
    {inb : ∀ a, srcOff g i c a + (![128, width g] : Fin 2 → ℕ) a ≤ (mat 1024 (width g)).size a} {h₁ h₂}
    {k : PUnit → Prog (TpuEff nD τ sig (Elt F) Λ₀ .tc) α}
    (hk : iprop(R ∗ At X W c (σ.step (.freed g i))) ⊢ run c (k ⟨⟩) Q)
    (hσ : σ.ph (g, i) = 2 := by decide +kernel) (hb : σ.blk (g, i.castSucc) = none := by decide +kernel) (ht : ∀ d, σ.told d = true := by decide +kernel) :
    iprop(R ∗ At X W c σ) ⊢ run c (.op (.waitDma2 (dsem 0 g i) m₁
      ((pM g).slice (Rect.unit (s := mat 1024 (width g)) (srcOff g i c) ![128, width g] inb) fun _ => rfl) h₁ h₂) k) Q :=
  step_freed hσ hb (N_block_at (srcOff_eq g i c)) hk ht

/-- The wait for an arrival at its printed offset. -/
theorem do_came (g : Fin 3) (i : Fin 7)

    {sp : Space} {s : Shape} {e : EltTy} {m₁ : Memref sig .tc sp s e}
    {inb : ∀ a, dstOff g i c a + (![128, width g] : Fin 2 → ℕ) a ≤ (mat (128 * parts (stage i)) (width g)).size a} {h₁ h₂}
    {k : PUnit → Prog (TpuEff nD τ sig (Elt F) Λ₀ .tc) α}
    (hk : iprop(R ∗ At X W c (σ.step (.came g i))) ⊢ run c (k ⟨⟩) Q)
    (hσ : σ.ph (g, i) = 3 := by decide +kernel) (ht : ∀ d, σ.told d = true := by decide +kernel) (hw : ∀ x : Fin 3 × Fin 7, σ.ph x ≤ 1 → 2 + (stage i).val < 2 + (stage x.2).val := by decide +kernel) :
    iprop(R ∗ At X W c σ) ⊢ run c (.op (.waitDma2 (dsem 1 g i) m₁
      ((rvM g (stage i)).slice (Rect.unit (s := mat (128 * parts (stage i)) (width g)) (dstOff g i c) ![128, width g] inb) fun _ => rfl) h₁ h₂) k) Q :=
  step_came hσ (N_slot_at (dstOff_eq g i c)) hk ht hw

/-- The printed offsets of a half: in the operand, and in the product. -/
def halfOff : Fin 2 → Fin 3 → Fin 2 → Dev nD → Fin 2 → ℕ
  | 0 => sentOff
  | 1 => keptOff
theorem halfOff_eq (h : Fin 2) (g : Fin 3) (k : Fin 2) (c : Dev nD) : halfOff h g k c = at512 (hf h g c) := by
  match h with
  | 0 => exact sentOff_eq g k c
  | 1 => exact keptOff_eq g k c

/-- Reading half of the rows and a group's columns, and storing their product. -/
theorem do_prod (g : Fin 3) (h : Fin 2) {o : Fin 2 → ℕ} (ho : o = ![0, 384 * g.val])
    {pay : Vec F (mat 512 128) .bf16 → Vec F (mat 128 (width g)) .bf16 → Vec F (mat 512 (width g)) .bf16} (hv : ∀ a b, pay a b = half g a b)
    {inb : ∀ a, halfOff h g 0 c a + (![512, 128] : Fin 2 → ℕ) a ≤ (mat 1024 128).size a}
    {inb' : ∀ a, o a + (![128, width g] : Fin 2 → ℕ) a ≤ (mat 128 1024).size a}
    {inb'' inb''' : ∀ a, halfOff h g 1 c a + (![512, width g] : Fin 2 → ℕ) a ≤ (mat 1024 (width g)).size a}
    {hl : (xgM g).view.LoadsAt (Rect.unit (s := mat 1024 128) (halfOff h g 0 c) ![512, 128] inb).toLoadRect}
    {hl' : wbM.view.LoadsAt (Rect.unit (s := mat 128 1024) o ![128, width g] inb').toLoadRect}
    {hl'' : (pM g).view.LoadsAt (Rect.unit (s := mat 1024 (width g)) (halfOff h g 1 c) ![512, width g] inb'').toLoadRect}
    {hx : ((pM g).access (Rect.unit (s := mat 1024 (width g)) (halfOff h g 1 c) ![512, width g] inb''')).Stores Finset.univ}
    {hm : Finset.univ = Finset.univ ∨ ∀ a, (Rect.unit (s := mat 1024 (width g)) (halfOff h g 1 c) ![512, width g] inb''').stride a = 1}
    {k : PUnit → Prog (TpuEff nD τ sig (Elt F) Λ₀ .tc) α}
    (hk : iprop(Ready X W c ∗ At X W c (σ.step (.prod g h))) ⊢ run c (k ⟨⟩) Q)
    (hσ : σ.raw (g, h) = true := by decide +kernel) (hn : ∀ t, σ.blk (g, inHalf h t) = none := by decide +kernel) :
    iprop(Ready X W c ∗ At X W c σ) ⊢ run c
      (.op (.load (xgM g) (Rect.unit (s := mat 1024 128) (halfOff h g 0 c) ![512, 128] inb).toLoadRect hl) fun a =>
      .op (.load wbM (Rect.unit (s := mat 128 1024) o ![128, width g] inb').toLoadRect hl') fun b =>
      .op (.load (pM g) (Rect.unit (s := mat 1024 (width g)) (halfOff h g 1 c) ![512, width g] inb'').toLoadRect hl'') fun _ =>
      .op (.store (pM g) (Rect.unit (s := mat 1024 (width g)) (halfOff h g 1 c) ![512, width g] inb''') (pay a b) Finset.univ hx hm) k) Q :=
  see_rows (halfOff_eq h g 0 c) (see_cols ho (step_seeHalf (halfOff_eq h g 1 c) hσ fun _ =>
    step_prod (halfOff_eq h g 1 c) hσ hn (hv _ _) hk))

/-- Signalling at the printed device. -/
theorem do_tell (d : Fin 3) {n : Dev nD}
    {k : PUnit → Prog (TpuEff nD τ sig (Elt F) Λ₀ .tc) α}
    (hk : iprop(R ∗ At X W c (σ.step (.tell d))) ⊢ run c (k ⟨⟩) Q)
    (hσ : σ.told d = false := by decide +kernel) (hn : n.val = sigDev d c := by rfl) :
    iprop(R ∗ At X W c σ) ⊢ run c (.op (.semSignal ((n, .tc) : Thread nD τ) barS (1#32 : BitVec 32).toInt) k) Q :=
  step_tell (Fin.ext (hn.trans (sigDev_eq d c))) hσ hk

variable (X W c) in
/-- The part beginning at `n` leaves the device where the next begins, having read and written nothing else, with a result
for which `P` holds. -/
def Moves {α : Type} (n : ℕ) (P : α → Prop) (R R' : sProp (MT nD τ sig Unit (Elt F) ℕ UU ℕ))
    (p : Prog (TpuEff nD τ sig (Elt F) Λ₀ .tc) α) : Prop :=
  ∀ Q : α → sProp (MT nD τ sig Unit (Elt F) ℕ UU ℕ), (∀ r, P r → iprop(R' ∗ At X W c (stateAt (n + 1))) ⊢ Q r) →
    iprop(R ∗ At X W c (stateAt n)) ⊢ run c p Q

end Cert.KProof
-- ==== Proof.Parts.lean ====
/-
# The parts of the body

Each part of the body takes a device from where it stood to where the events of the part leave it.
-/
module

public import proofs.«01_k».proof.Proof.Plan

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {X : Dev nD → Vec F S1024x128 .bf16} {W : Dev nD → Vec F S128x1024 .bf16}
variable {c : Dev nD} {v1 v2 v3 v4 v5 v6 v7 v8 v9 : BitVec 32} {R : sProp (MT nD τ sig Unit (Elt F) ℕ UU ℕ)}

theorem part1 : Moves X W c 1 (fun r => r.1 = c) R R (onArgs (k0_part1 (F := F))) := fun _ h => by
  rw [k0_part1_eq_skeleton]
  unfold onArgs k0_part1_skel
  simp only [wp_deviceId, run, Prog.lift, Prog.bind_op, Prog.bind_ret, Prog.pure_eq_ret]
  exact done (h _ rfl)

theorem part2 : Moves X W c 2 (fun r => r.2.2.2 = SemArray.scalar (sig.barrier 0 rfl)) (Pre X W c false 0) (Pre X W c true 2)
    (onArgs (k0_part2 (F := F)) c v1 v2 v3) := fun _ h => by
  rw [k0_part2_eq_skeleton]
  unfold onArgs k0_part2_skel
  simp only [semSignalWord, Prog.lift, Prog.bind_op, Prog.bind_ret, Prog.pure_eq_ret]
  refine do_tell 0 ?_
  refine do_tell 1 ?_
  refine do_tell 2 ?_
  refine copy_w rfl (fun v => by simp only [k0_pay2, shapeCast_self]) ?_
  refine copy_in (by decide) (by decide +kernel) (by decide) (fun v => by simp only [k0_pay3, shapeCast_self]) ?_
  refine copy_in (by decide) (by decide +kernel) (by decide) (fun v => by simp only [k0_pay4, shapeCast_self]) ?_
  exact done (h _ rfl)

theorem part3 : Moves X W c 3 (fun _ => True) (Pre X W c true 2) (Pre X W c true 8) (onArgs (k0_part3 (F := F))) := fun _ h => by
  rw [k0_part3_eq_skeleton]
  unfold onArgs k0_part3_skel
  simp only [Prog.lift, Prog.bind_op, Prog.bind_ret, Prog.pure_eq_ret]
  iterate 6 refine copy_in (by decide) (by decide +kernel) (by decide) (fun v => by simp only [k0_pay5, k0_pay6, k0_pay7, k0_pay8, k0_pay9, k0_pay10, shapeCast_self]) ?_
  exact done (h _ trivial)

theorem part4 : Moves X W c 4 (fun _ => True) (Pre X W c true 8) (Pre X W c true 14) (onArgs (k0_part4 (F := F))) := fun _ h => by
  rw [k0_part4_eq_skeleton]
  unfold onArgs k0_part4_skel
  simp only [Prog.lift, Prog.bind_op, Prog.bind_ret, Prog.pure_eq_ret]
  iterate 6 refine copy_in (by decide) (by decide +kernel) (by decide) (fun v => by simp only [k0_pay11, k0_pay12, k0_pay13, k0_pay14, k0_pay15, k0_pay16, shapeCast_self]) ?_
  exact done (h _ trivial)

theorem part5 : Moves X W c 5 (fun _ => True) (Pre X W c true 14) (Pre X W c true 20) (onArgs (k0_part5 (F := F))) := fun _ h => by
  rw [k0_part5_eq_skeleton]
  unfold onArgs k0_part5_skel
  simp only [Prog.lift, Prog.bind_op, Prog.bind_ret, Prog.pure_eq_ret]
  iterate 6 refine copy_in (by decide) (by decide +kernel) (by decide) (fun v => by simp only [k0_pay17, k0_pay18, k0_pay19, k0_pay20, k0_pay21, k0_pay22, shapeCast_self]) ?_
  exact done (h _ trivial)

theorem part6 : Moves X W c 6 (fun _ => True) (Pre X W c true 20) (Pre X W c true 24) (onArgs (k0_part6 (F := F)) v1 v2 v3) := fun _ h => by
  rw [k0_part6_eq_skeleton]
  unfold onArgs k0_part6_skel
  simp only [Prog.lift, Prog.bind_op, Prog.bind_ret, Prog.pure_eq_ret]
  iterate 4 refine copy_in (by decide) (by decide +kernel) (by decide) (fun v => by simp only [k0_pay23, k0_pay24, k0_pay25, k0_pay26, shapeCast_self]) ?_
  exact done (h _ trivial)

theorem part7 : Moves X W c 7 (fun _ => True) (Ready X W c) (Ready X W c) (onArgs (k0_part7 (F := F)) c v1 v2 v3 v4 v5 v6 v7 v8 v9) := fun _ h => by
  rw [k0_part7_eq_skeleton]
  unfold onArgs k0_part7_skel
  simp only [Prog.lift, Prog.bind_op, Prog.bind_ret, Prog.pure_eq_ret]
  refine do_prod 0 0 rfl (fun _ _ => rfl) ?_
  exact done (h _ trivial)

theorem part8 {s : Sems sig S_} (hs : s = SemArray.scalar (sig.barrier 0 rfl)) :
    Moves X W c 8 (fun _ => True) (Ready X W c) (Ready X W c) (onArgs (k0_part8 (F := F)) c v1 v2 s v3 v4) := fun _ h => by
  subst hs
  rw [k0_part8_eq_skeleton]
  unfold onArgs k0_part8_skel
  simp only [semWaitWord, Prog.lift, Prog.bind_op, Prog.bind_ret, Prog.pure_eq_ret]
  refine do_prod 1 0 rfl (fun _ _ => rfl) ?_
  refine do_prod 2 0 rfl (fun _ _ => rfl) ?_
  refine step_meet (by decide +kernel) (by decide +kernel) (by decide +kernel) ?_
  exact done (h _ trivial)

theorem part9 : Moves X W c 9 (fun _ => True) R R (onArgs (k0_part9 (F := F)) c v1 v2 v3 v4 v5 v6) := fun _ h => by
  rw [k0_part9_eq_skeleton]
  unfold onArgs k0_part9_skel
  simp only [Prog.lift, Prog.bind_op, Prog.bind_ret, Prog.pure_eq_ret]
  refine do_send 0 0 ?_
  refine do_send 0 1 ?_
  refine do_send 0 2 ?_
  exact done (h _ trivial)

theorem part10 : Moves X W c 10 (fun _ => True) R R (onArgs (k0_part10 (F := F)) c v1 v2 v3 v4 v5 v6) := fun _ h => by
  rw [k0_part10_eq_skeleton]
  unfold onArgs k0_part10_skel
  simp only [Prog.lift, Prog.bind_op, Prog.bind_ret, Prog.pure_eq_ret]
  refine do_send 0 3 ?_
  refine do_send 1 0 ?_
  exact done (h _ trivial)

theorem part11 : Moves X W c 11 (fun _ => True) R R (onArgs (k0_part11 (F := F)) c v1 v2 v3 v4 v5 v6) := fun _ h => by
  rw [k0_part11_eq_skeleton]
  unfold onArgs k0_part11_skel
  simp only [Prog.lift, Prog.bind_op, Prog.bind_ret, Prog.pure_eq_ret]
  refine do_send 1 1 ?_
  refine do_send 1 2 ?_
  refine do_send 1 3 ?_
  exact done (h _ trivial)

theorem part12 : Moves X W c 12 (fun _ => True) R R (onArgs (k0_part12 (F := F)) c v1 v2 v3 v4 v5 v6) := fun _ h => by
  rw [k0_part12_eq_skeleton]
  unfold onArgs k0_part12_skel
  simp only [Prog.lift, Prog.bind_op, Prog.bind_ret, Prog.pure_eq_ret]
  refine do_send 2 0 ?_
  refine do_send 2 1 ?_
  exact done (h _ trivial)

theorem part13 : Moves X W c 13 (fun r => k0_pay32 r = prodV 1 1 X W c) (Ready X W c) (Ready X W c)
    (onArgs (k0_part13 (F := F)) c v1 v2 v3 v4 v5) := fun _ h => by
  rw [k0_part13_eq_skeleton]
  unfold onArgs k0_part13_skel
  simp only [Prog.lift, Prog.bind_op, Prog.bind_ret, Prog.pure_eq_ret]
  refine do_send 2 2 ?_
  refine do_send 2 3 ?_
  refine do_prod 0 1 rfl (fun _ _ => rfl) ?_
  refine see_rows (g := 1) (h := 1) (keptOff_eq 1 0 c) ?_
  refine see_cols (g := 1) rfl ?_
  refine step_seeHalf (g := 1) (h := 1) (keptOff_eq 1 1 c) (by decide +kernel) fun _ => ?_
  exact done (h _ rfl)

theorem part14 {r : FVec F S512x384 .bf16} (hr : k0_pay32 r = prodV 1 1 X W c) : Moves X W c 14 (fun _ => True) (Ready X W c) (Ready X W c)
    (onArgs (k0_part14 (F := F)) c v1 v2 v3 v4 v5 r) := fun _ h => by
  rw [k0_part14_eq_skeleton]
  unfold onArgs k0_part14_skel
  simp only [Prog.lift, Prog.bind_op, Prog.bind_ret, Prog.pure_eq_ret]
  refine step_prod (g := 1) (h := 1) (keptOff_eq 1 1 c) (by decide +kernel) (by decide +kernel) hr ?_
  refine do_prod 2 1 rfl (fun _ _ => rfl) ?_
  refine do_freed 0 0 ?_
  refine do_came 0 0 ?_
  exact done (h _ trivial)

theorem part15 : Moves X W c 15 (fun _ => True) R R (onArgs (k0_part15 (F := F)) c v1 v2 v3 v4 v5) := fun _ h => by
  rw [k0_part15_eq_skeleton]
  unfold onArgs k0_part15_skel
  simp only [Prog.lift, Prog.bind_op, Prog.bind_ret, Prog.pure_eq_ret]
  refine step_add 0 0 (fun a b => by simp only [k0_pay34, shapeCast_self]; rfl) ?_
  refine do_send 0 4 ?_
  refine do_freed 1 0 ?_
  exact done (h _ trivial)

theorem part16 : Moves X W c 16 (fun _ => True) R R (onArgs (k0_part16 (F := F)) c v1 v2 v3 v4) := fun _ h => by
  rw [k0_part16_eq_skeleton]
  unfold onArgs k0_part16_skel
  simp only [Prog.lift, Prog.bind_op, Prog.bind_ret, Prog.pure_eq_ret]
  refine do_came 1 0 ?_
  refine step_add 1 0 (fun a b => by simp only [k0_pay35, shapeCast_self]; rfl) ?_
  exact done (h _ trivial)

theorem part17 : Moves X W c 17 (fun _ => True) R R (onArgs (k0_part17 (F := F)) c v1 v2 v3 v4) := fun _ h => by
  rw [k0_part17_eq_skeleton]
  unfold onArgs k0_part17_skel
  simp only [Prog.lift, Prog.bind_op, Prog.bind_ret, Prog.pure_eq_ret]
  refine do_send 1 4 ?_
  refine do_freed 2 0 ?_
  refine do_came 2 0 ?_
  refine step_add 2 0 (fun a b => by simp only [k0_pay36, shapeCast_self]; rfl) ?_
  exact done (h _ trivial)

theorem part18 : Moves X W c 18 (fun _ => True) R R (onArgs (k0_part18 (F := F)) c v1 v2 v3 v4 v5) := fun _ h => by
  rw [k0_part18_eq_skeleton]
  unfold onArgs k0_part18_skel
  simp only [Prog.lift, Prog.bind_op, Prog.bind_ret, Prog.pure_eq_ret]
  refine do_send 2 4 ?_
  refine do_freed 0 1 ?_
  refine do_came 0 1 ?_
  exact done (h _ trivial)

theorem part19 : Moves X W c 19 (fun _ => True) R R (onArgs (k0_part19 (F := F)) c v1 v2 v3 v4 v5) := fun _ h => by
  rw [k0_part19_eq_skeleton]
  unfold onArgs k0_part19_skel
  simp only [Prog.lift, Prog.bind_op, Prog.bind_ret, Prog.pure_eq_ret]
  refine step_add 0 1 (fun a b => by simp only [k0_pay37, shapeCast_self]; rfl) ?_
  refine do_send 0 5 ?_
  refine do_freed 1 1 ?_
  exact done (h _ trivial)

theorem part20 : Moves X W c 20 (fun _ => True) R R (onArgs (k0_part20 (F := F)) c v1 v2 v3 v4 v5 v6) := fun _ h => by
  rw [k0_part20_eq_skeleton]
  unfold onArgs k0_part20_skel
  simp only [Prog.lift, Prog.bind_op, Prog.bind_ret, Prog.pure_eq_ret]
  refine do_came 1 1 ?_
  refine step_add 1 1 (fun a b => by simp only [k0_pay38, shapeCast_self]; rfl) ?_
  refine do_send 1 5 ?_
  exact done (h _ trivial)

theorem part21 : Moves X W c 21 (fun _ => True) R R (onArgs (k0_part21 (F := F)) c v1 v2 v3 v4 v5) := fun _ h => by
  rw [k0_part21_eq_skeleton]
  unfold onArgs k0_part21_skel
  simp only [Prog.lift, Prog.bind_op, Prog.bind_ret, Prog.pure_eq_ret]
  refine do_freed 2 1 ?_
  refine do_came 2 1 ?_
  refine step_add 2 1 (fun a b => by simp only [k0_pay39, shapeCast_self]; rfl) ?_
  exact done (h _ trivial)

theorem part22 : Moves X W c 22 (fun r => r = addB (V X W 0 0 6 c) (sent X W 0 2 (peer 0 2 c))) R R
    (onArgs (k0_part22 (F := F)) c v1 v2 v3 v4 v5) := fun _ h => by
  rw [k0_part22_eq_skeleton]
  unfold onArgs k0_part22_skel
  simp only [Prog.lift, Prog.bind_op, Prog.bind_ret, Prog.pure_eq_ret]
  refine do_send 2 5 ?_
  refine do_freed 0 2 ?_
  refine do_came 0 2 ?_
  refine step_load (g := 0) (j := 6) (n := 0) (accOff_eq 0 2 c) (by decide +kernel) ?_
  refine step_got (g := 0) (i := 2) (gotOff_eq 0 2 c) (by decide +kernel) ?_
  refine step_load (g := 0) (j := 6) (n := 0) (accOff_eq 0 2 c) (by decide +kernel) ?_
  exact done (h _ (by simp only [k0_pay40, shapeCast_self]; rfl))

theorem part23 {r : FVec F S128x384 .bf16} (hr : r = addB (V X W 0 0 6 c) (sent X W 0 2 (peer 0 2 c))) : Moves X W c 23 (fun _ => True) R R
    (onArgs (k0_part23 (F := F)) c v1 v2 v3 v4 r) := fun _ h => by
  rw [k0_part23_eq_skeleton]
  unfold onArgs k0_part23_skel
  simp only [Prog.lift, Prog.bind_op, Prog.bind_ret, Prog.pure_eq_ret]
  refine step_acc (g := 0) (i := 2) (accOff_eq 0 2 c) (by decide +kernel) hr ?_
  refine do_freed 1 2 ?_
  refine do_came 1 2 ?_
  refine step_add 1 2 (fun a b => by simp only [k0_pay41, shapeCast_self]; rfl) ?_
  exact done (h _ trivial)

theorem part24 : Moves X W c 24 (fun _ => True) R R (onArgs (k0_part24 (F := F)) c v1 v2 v3 v4 v5) := fun _ h => by
  rw [k0_part24_eq_skeleton]
  unfold onArgs k0_part24_skel
  simp only [Prog.lift, Prog.bind_op, Prog.bind_ret, Prog.pure_eq_ret]
  refine do_freed 2 2 ?_
  refine do_came 2 2 ?_
  refine step_add 2 2 (fun a b => by simp only [k0_pay42, shapeCast_self]; rfl) ?_
  refine do_freed 0 4 ?_
  exact done (h _ trivial)

theorem part25 : Moves X W c 25 (fun _ => True) R R (onArgs (k0_part25 (F := F)) c v1 v2 v3 v4 v5) := fun _ h => by
  rw [k0_part25_eq_skeleton]
  unfold onArgs k0_part25_skel
  simp only [Prog.lift, Prog.bind_op, Prog.bind_ret, Prog.pure_eq_ret]
  refine do_came 0 4 ?_
  refine step_add 0 4 (fun a b => by simp only [k0_pay43, shapeCast_self]; rfl) ?_
  refine do_send 0 6 ?_
  refine do_freed 1 4 ?_
  exact done (h _ trivial)

theorem part26 : Moves X W c 26 (fun _ => True) R R (onArgs (k0_part26 (F := F)) c v1 v2 v3 v4) := fun _ h => by
  rw [k0_part26_eq_skeleton]
  unfold onArgs k0_part26_skel
  simp only [Prog.lift, Prog.bind_op, Prog.bind_ret, Prog.pure_eq_ret]
  refine do_came 1 4 ?_
  refine step_add 1 4 (fun a b => by simp only [k0_pay44, shapeCast_self]; rfl) ?_
  refine do_send 1 6 ?_
  exact done (h _ trivial)

theorem part27 : Moves X W c 27 (fun _ => True) R R (onArgs (k0_part27 (F := F)) c v1 v2 v3 v4) := fun _ h => by
  rw [k0_part27_eq_skeleton]
  unfold onArgs k0_part27_skel
  simp only [Prog.lift, Prog.bind_op, Prog.bind_ret, Prog.pure_eq_ret]
  refine do_freed 2 4 ?_
  refine do_came 2 4 ?_
  refine step_add 2 4 (fun a b => by simp only [k0_pay45, shapeCast_self]; rfl) ?_
  refine do_send 2 6 ?_
  exact done (h _ trivial)

theorem part28 : Moves X W c 28 (fun _ => True) R R (onArgs (k0_part28 (F := F)) c v1 v2 v3 v4) := fun _ h => by
  rw [k0_part28_eq_skeleton]
  unfold onArgs k0_part28_skel
  simp only [Prog.lift, Prog.bind_op, Prog.bind_ret, Prog.pure_eq_ret]
  refine do_freed 0 3 ?_
  refine do_came 0 3 ?_
  refine step_add 0 3 (fun a b => by simp only [k0_pay46, shapeCast_self]; rfl) ?_
  refine do_freed 1 3 ?_
  exact done (h _ trivial)

theorem part29 : Moves X W c 29 (fun _ => True) R R (onArgs (k0_part29 (F := F)) c v1 v2 v3 v4 v5) := fun _ h => by
  rw [k0_part29_eq_skeleton]
  unfold onArgs k0_part29_skel
  simp only [Prog.lift, Prog.bind_op, Prog.bind_ret, Prog.pure_eq_ret]
  refine do_came 1 3 ?_
  refine step_add 1 3 (fun a b => by simp only [k0_pay47, shapeCast_self]; rfl) ?_
  refine do_freed 2 3 ?_
  refine do_came 2 3 ?_
  exact done (h _ trivial)

theorem part30 : Moves X W c 30 (fun r => k0_pay50 r = addB (V X W 0 1 7 c) (sent X W 0 5 (peer 0 5 c))) R R
    (onArgs (k0_part30 (F := F)) c v1 v2 v3 v4 v5 v6 v7) := fun _ h => by
  rw [k0_part30_eq_skeleton]
  unfold onArgs k0_part30_skel
  simp only [Prog.lift, Prog.bind_op, Prog.bind_ret, Prog.pure_eq_ret]
  refine step_add 2 3 (fun a b => by simp only [k0_pay48, shapeCast_self]; rfl) ?_
  refine do_freed 0 5 ?_
  refine do_came 0 5 ?_
  refine step_load (g := 0) (j := 7) (n := 1) (accOff_eq 0 5 c) (by decide +kernel) ?_
  refine step_got (g := 0) (i := 5) (gotOff_eq 0 5 c) (by decide +kernel) ?_
  exact done (h _ (by simp only [k0_pay49, k0_pay50, shapeCast_self]; rfl))

theorem part31 {r : FVec F S128x384 .bf16} (hr : k0_pay50 r = addB (V X W 0 1 7 c) (sent X W 0 5 (peer 0 5 c))) : Moves X W c 31 (fun _ => True) R R
    (onArgs (k0_part31 (F := F)) c v1 v2 v3 r) := fun _ h => by
  rw [k0_part31_eq_skeleton]
  unfold onArgs k0_part31_skel
  simp only [Prog.lift, Prog.bind_op, Prog.bind_ret, Prog.pure_eq_ret]
  refine step_load (g := 0) (j := 7) (n := 1) (accOff_eq 0 5 c) (by decide +kernel) ?_
  refine step_acc (g := 0) (i := 5) (accOff_eq 0 5 c) (by decide +kernel) hr ?_
  refine do_freed 1 5 ?_
  refine do_came 1 5 ?_
  refine step_add 1 5 (fun a b => by simp only [k0_pay51, shapeCast_self]; rfl) ?_
  exact done (h _ trivial)

theorem part32 : Moves X W c 32 (fun _ => True) R R (onArgs (k0_part32 (F := F)) c v1 v2 v3 v4) := fun _ h => by
  rw [k0_part32_eq_skeleton]
  unfold onArgs k0_part32_skel
  simp only [Prog.lift, Prog.bind_op, Prog.bind_ret, Prog.pure_eq_ret]
  refine do_freed 2 5 ?_
  refine do_came 2 5 ?_
  refine step_add 2 5 (fun a b => by simp only [k0_pay52, shapeCast_self]; rfl) ?_
  refine do_freed 0 6 ?_
  exact done (h _ trivial)

theorem part33 : Moves X W c 33 (fun _ => True) R R (onArgs (k0_part33 (F := F)) c v1 v2 v3) := fun _ h => by
  rw [k0_part33_eq_skeleton]
  unfold onArgs k0_part33_skel
  simp only [Prog.lift, Prog.bind_op, Prog.bind_ret, Prog.pure_eq_ret]
  refine do_came 0 6 ?_
  refine step_result 0 (fun a b => by rfl) rfl ?_
  refine do_freed 1 6 ?_
  refine do_came 1 6 ?_
  refine step_result 1 (fun a b => by rfl) rfl ?_
  exact done (h _ trivial)

end Cert.KProof
-- ==== Proof.Whole.lean ====
/-
# The body

The parts one after the other: from the start to where every copy has arrived and all of the result is written.
-/
module

public import proofs.«01_k».proof.Proof.Parts

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {X : Dev nD → Vec F S1024x128 .bf16} {W : Dev nD → Vec F S128x1024 .bf16}
variable {c : Dev nD} {R : sProp (MT nD τ sig Unit (Elt F) ℕ UU ℕ)}

theorem Moves.then {n : ℕ} {α β : Type} {P : α → Prop} {R R' : sProp (MT nD τ sig Unit (Elt F) ℕ UU ℕ)}
    {p : Prog (TpuEff nD τ sig (Elt F) Λ₀ .tc) α} (hp : Moves X W c n P R R' p)
    {k : α → Prog (TpuEff nD τ sig (Elt F) Λ₀ .tc) β} {Q : β → sProp (MT nD τ sig Unit (Elt F) ℕ UU ℕ)}
    (hk : ∀ r, P r → iprop(R' ∗ At X W c (stateAt (n + 1))) ⊢ run c (k r) Q) :
    iprop(R ∗ At X W c (stateAt n)) ⊢ run c (p >>= k) Q := by
  unfold run
  rw [Idealize.SL.Sem.wp_bind]
  exact hp _ hk

theorem ready_first {T G : sProp (MT nD τ sig Unit (Elt F) ℕ UU ℕ)} (h : iprop(Ready X W c ∗ T) ⊢ G) : iprop(Pre X W c true 24 ∗ T) ⊢ G := by
  refine BIBase.Entails.trans ?_ h
  iintro ⟨HP, HT⟩
  isplitl [HP]
  · iapply ready_intro; iexact HP
  · iexact HT

theorem part34 {Q : (Σ' (_ : Dev nD), BitVec 32) → sProp (MT nD τ sig Unit (Elt F) ℕ UU ℕ)}
    (h : ∀ r, r.1 = c → iprop(Ready X W c ∗ At X W c (stateAt 35)) ⊢ Q r) :
    iprop(Pre X W c false 0 ∗ At X W c (stateAt 1)) ⊢ run c (onArgs (k0_part34 (F := F))) Q := by
  rw [k0_part34_eq_skeleton]
  unfold onArgs k0_part34_skel
  refine part1.then fun ⟨d, w2, w12, w29, w31, w35, _⟩ hd => ?_
  obtain rfl : d = c := hd
  refine part2.then fun ⟨_, _, _, s⟩ hs => ?_
  refine part3.then fun _ _ => ?_
  refine part4.then fun _ _ => ?_
  refine part5.then fun _ _ => ?_
  refine part6.then fun _ _ => ?_
  refine ready_first ?_
  refine part7.then fun _ _ => ?_
  refine (part8 hs).then fun _ _ => ?_
  refine part9.then fun _ _ => ?_
  refine part10.then fun _ _ => ?_
  refine part11.then fun _ _ => ?_
  refine part12.then fun _ _ => ?_
  refine part13.then fun _ hr => ?_
  refine (part14 hr).then fun _ _ => ?_
  refine part15.then fun _ _ => ?_
  refine part16.then fun _ _ => ?_
  refine part17.then fun _ _ => ?_
  refine part18.then fun _ _ => ?_
  refine part19.then fun _ _ => ?_
  refine part20.then fun _ _ => ?_
  refine part21.then fun _ _ => ?_
  refine part22.then fun _ hr => ?_
  refine (part23 hr).then fun _ _ => ?_
  refine part24.then fun _ _ => ?_
  refine part25.then fun _ _ => ?_
  refine part26.then fun _ _ => ?_
  refine part27.then fun _ _ => ?_
  refine part28.then fun _ _ => ?_
  refine part29.then fun _ _ => ?_
  refine part30.then fun _ hr => ?_
  refine (part31 hr).then fun _ _ => ?_
  refine part32.then fun _ _ => ?_
  refine part33.then fun _ _ => ?_
  simp only [Prog.lift, Prog.bind_op, Prog.bind_ret, Prog.pure_eq_ret]
  refine do_freed 2 6 ?_
  exact done (h _ rfl)

/-- The whole body. -/
theorem body_run {Q : PUnit → sProp (MT nD τ sig Unit (Elt F) ℕ UU ℕ)}
    (h : iprop(Ready X W c ∗ At X W c (stateAt 36)) ⊢ Q ⟨⟩) :
    iprop(Pre X W c false 0 ∗ At X W c start) ⊢ run c (onArgs (cc0_body (F := F))) Q := by
  rw [cc0_body_eq_skeleton]
  unfold onArgs cc0_body_skel run
  rw [Idealize.SL.Sem.wp_bind]
  refine part34 fun ⟨d, _⟩ hd => ?_
  obtain rfl : d = c := hd
  simp only [Prog.lift, Prog.bind_op, Prog.bind_ret, Prog.pure_eq_ret]
  refine do_came 2 6 ?_
  refine step_result 2 (fun a b => by rfl) rfl ?_
  exact done h

end Cert.KProof
-- ==== Proof.Ends.lean ====
/-
# The two ends of the body

What a device holds when its body begins, put into the shape the body starts from, and what it holds at the end, put back.
-/
module

public import proofs.«01_k».proof.Proof.Buffers
public import proofs.«01_k».proof.Proof.Whole
public import proofs.«01_k».proof.Proof.Gen.KernelIdeal.Launch

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x128 .bf16) (W : Dev nD → Vec F S128x1024 .bf16)

/-- The working memory of a device. -/
def stock (c : Dev nD) : sProp 𝕄 :=
  iprop((bigSep Finset.univ fun g => held c (pM g)) ∗ (bigSep Finset.univ fun g => held c (xgM g)) ∗ held c wbM
    ∗ bigSep Finset.univ fun g : Fin 3 => bigSep Finset.univ fun s : Fin 3 => held c (rvM g s))

theorem bigSep_three (Φ : Fin 3 → sProp 𝕄) : bigSep Finset.univ Φ = iprop(Φ 0 ∗ Φ 1 ∗ Φ 2) :=
  bigSep_univ_eq_bigSepL [0, 1, 2] (by decide) (by decide) Φ

/-- A buffer held whole is the buffer at some contents. -/
theorem held_whole (c : Dev nD) (b : Ref sig .tc) :
    iprop(∃ Y, owns (Ix := Unit) (Name := ℕ) (U := UU) (Lvl := ℕ) (c : Thread nD τ) (Memref.whole b) fullShare Y)
      = (iprop(∃ f : Buf (Elt F) ((c : Thread nD τ).loc b), ((c : Thread nD τ).loc b) ↦{fullShare} f) : sProp 𝕄) := by
  refine BI.Entails.antisymm (show _ ⊢ (_ : sProp 𝕄) from ?_) (show _ ⊢ (_ : sProp 𝕄) from ?_)
  · unfold owns; simp only [Memref.view_whole, View.read_whole, View.set_whole]
    iintro ⟨%Y, %f, -, H⟩
    iexists f; iexact H
  · iintro ⟨%f, H⟩
    iexists f
    unfold owns; simp only [Memref.view_whole, View.read_whole, View.set_whole]
    iexists f
    isplitr; · ipureintro; rfl
    iexact H

theorem sep_flat (A B C : sProp 𝕄) : iprop((A ∗ B) ∗ C) = iprop(A ∗ B ∗ C) :=
  BI.Entails.antisymm (show iprop((A ∗ B) ∗ C) ⊢ iprop(A ∗ B ∗ C) from Laws.sep_assoc.1)
    (show iprop(A ∗ B ∗ C) ⊢ iprop((A ∗ B) ∗ C) from Laws.sep_assoc.2)

/-- The working memory is what the call allocates beside its windows. -/
theorem stock_eq (c : Dev nD) :
    (Pipeline.scopedRest (Ix := Unit) (Name := ℕ) (U := UU) (Lvl := ℕ) (Val := Elt F) cfg0.spec c : sProp 𝕄) = stock c := by
  rw [show (Pipeline.scopedRest (Ix := Unit) (Name := ℕ) (U := UU) (Lvl := ℕ) (Val := Elt F) cfg0.spec c : sProp 𝕄) = _ from scopedRest0_eq c]
  unfold stock held
  simp only [bigSep_three, sep_flat, pM, xgM, rvM, wbM]
  simp only [← held_whole]
  rfl

/-- What a device brings to the body beside its memory. -/
def Ghost (c : Dev nD) : sProp 𝕄 :=
  iprop(records X W ∗ (bigSep Finset.univ fun d : Fin 3 => dutyTok ER (barCell (peer d 0 c)) 0 d) ∗ meetRes c false
    ∗ bigSep Finset.univ fun x : Fin 3 × Fin 7 => kit c x.1 x.2)

theorem enter (c : Dev nD) (Ws : Waits sig Unit) :
    iprop(Ghost X W c ∗ stock c ∗ owes (c : Thread nD τ) (owed start c) Ws
        ∗ ownsTc c xM fullShare (X c) ∗ ownsTc c wM fullShare (W c) ∗ held c oM)
      ⊢ (iprop(Pre X W c false 0 ∗ At X W c start) : sProp 𝕄) := by
  unfold Ghost stock
  iintro ⟨⟨#Hrec, Hd, Hm, Hk⟩, ⟨Hp, Hxg, Hwb, Hrv⟩, Ho, Hx, Hw, Hout⟩
  ihave Hraw := (sums_enter (F := F) c) $$ Hp
  ihave Hpc := (rows_enter X c) $$ Hxg
  ihave Hsl := (slots_enter (F := F) c) $$ Hrv
  ihave Hpay := (tells_enter (F := F) c) $$ Hsl
  ihave Hres := (result_enter X W c) $$ Hout
  isplitl [Hx Hw Hwb Hpc]
  · unfold Pre
    isplitl [Hx]; · iexact Hx
    isplitl [Hw]; · iexact Hw
    isplitl [Hwb]
    · iapply (show (held c wbM : sProp 𝕄) ⊢ wbRes W c false from Entails.refl _); iexact Hwb
    iexact Hpc
  unfold At
  isplitr; · iexact Hrec
  isplitl [Ho]; · iexists Ws; iexact Ho
  isplitl [Hd Hpay]
  · iapply (show iprop((bigSep Finset.univ fun d : Fin 3 => (dutyTok ER (barCell (peer d 0 c)) 0 d : sProp 𝕄)) ∗ bigSep Finset.univ fun d : Fin 3 => barPay d (peer d 0 c))
      ⊢ (bigSep Finset.univ fun d => tellRes c d (start.told d) : sProp 𝕄) from by rw [← bigSep_sep']; exact Entails.refl _)
    isplitl [Hd] <;> iassumption
  isplitl [Hm]; · iexact Hm
  isplitl [Hraw]; · iexact Hraw
  isplitr
  · iapply (show (iprop(emp) : sProp 𝕄) ⊢ bigSep Finset.univ fun x => blkRes X W c x (start.blk x) from
      Entails.of_eq (bigSep_emp_const _).symm)
    iempintro
  isplitl [Hk]
  · iapply (show (bigSep Finset.univ fun x : Fin 3 × Fin 7 => (kit c x.1 x.2 : sProp 𝕄)) ⊢ bigSep Finset.univ fun x => phRes X W c x (start.ph x) from Entails.refl _)
    iexact Hk
  iexact Hres

/-! ## The end -/

theorem end_told : ∀ d, (stateAt 36).told d = true := by decide +kernel
theorem end_met : (stateAt 36).met = true := by decide +kernel
theorem end_blk : ∀ x, ∃ n, (stateAt 36).blk x = some n := by
  have : ∀ x, ((stateAt 36).blk x).isSome = true := by decide +kernel
  exact fun x => Option.isSome_iff_exists.mp (this x)
theorem end_ph : ∀ x, (stateAt 36).ph x = 4 := by decide +kernel
theorem end_out : ∀ g, (stateAt 36).out g = true := by decide +kernel

theorem end_owed (c : Dev nD) : owed (stateAt 36) c = 0 := by
  unfold owed
  rw [Finset.sum_eq_zero fun x _ => if_neg (by rw [end_ph]; decide), Finset.sum_eq_zero fun d _ => if_pos (end_told d), add_zero]

theorem blk_any (c : Dev nD) (x : Fin 3 × Fin 8) (n : ℕ) : (blkRes X W c x (some n) : sProp 𝕄) ⊢ held c (blockM x.1 (row x.1 x.2 c)) := by
  cases n with
  | zero => exact Entails.refl _
  | succ n =>
    show (ownsTc c (blockM x.1 (row x.1 x.2 c)) fullShare (V X W x.1 n x.2 c) : sProp 𝕄) ⊢ _
    iintro H; iexists _; iexact H

/-- The semaphores of the copies. -/
def osem (k : Fin 2 × Fin 3 × Fin 7) : SemLoc sig := .dma (dsem k.1 k.2.1 k.2.2)

theorem sems_leave (c : Dev nD) : iprop((bigSep Finset.univ fun x : Fin 3 × Fin 7 => (semVal (xCell 0 x.1 x.2 c) 0 : sProp 𝕄))
      ∗ bigSep Finset.univ fun x : Fin 3 × Fin 7 => (semVal (xCell 1 x.1 x.2 c) 0 : sProp 𝕄))
    ⊢ Pipeline.ownSems0 (Ix := Unit) (Name := ℕ) (U := UU) (Lvl := ℕ) (Val := Elt F) (τ := τ) osem c := by
  unfold Pipeline.ownSems0
  rw [bigSep_univ_prod (fun k : Fin 2 × Fin 3 × Fin 7 => (semVal ((c : Thread nD τ), osem k) 0 : sProp 𝕄)),
    bigSep_fin_two (fun b : Fin 2 => bigSep Finset.univ fun x : Fin 3 × Fin 7 => (semVal ((c : Thread nD τ), osem (b, x)) 0 : sProp 𝕄))]
  exact Entails.refl _

theorem leave (c : Dev nD) :
    iprop(Ready X W c ∗ At X W c (stateAt 36))
      ⊢ (iprop(∃ Ws, semVal (barCell c) 0 ∗ Pipeline.ownSems0 (Ix := Unit) (Name := ℕ) (U := UU) (Lvl := ℕ) (Val := Elt F) (τ := τ) osem c
          ∗ stock c ∗ owes (c : Thread nD τ) 0 Ws
          ∗ ownsTc c xM fullShare (X c) ∗ ownsTc c wM fullShare (W c) ∗ ownsTc c oM fullShare (outV X W c)) : sProp 𝕄) := by
  unfold Ready At
  rw [end_owed, end_met]
  iintro ⟨⟨Hx, Hw, Hwb, Hxg⟩, -, ⟨%Ws, Ho⟩, -, Hm, -, Hb, Hp, Hout⟩
  iexists Ws
  isplitl [Hm]
  · iapply (show meetRes c true ⊢ (semVal (barCell c) 0 : sProp 𝕄) from Entails.refl _); iexact Hm
  ihave Hp := (show (bigSep Finset.univ fun x => phRes X W c x ((stateAt 36).ph x) : sProp 𝕄)
      ⊢ iprop((bigSep Finset.univ fun x : Fin 3 × Fin 7 => semVal (xCell 0 x.1 x.2 c) 0)
        ∗ (bigSep Finset.univ fun x : Fin 3 × Fin 7 => semVal (xCell 1 x.1 x.2 c) 0)
        ∗ bigSep Finset.univ fun x : Fin 3 × Fin 7 => recvPay X W x.1 x.2 c) from by
    rw [← bigSep_sep', ← bigSep_sep']
    exact Entails.of_eq (bigSep_congr fun x _ => by rw [end_ph]; rfl)) $$ Hp
  icases Hp with ⟨Hs, Hr, Hpay⟩
  isplitl [Hs Hr]
  · iapply (sems_leave (F := F) c)
    isplitl [Hs] <;> iassumption
  isplitl [Hwb Hxg Hb Hpay]
  · unfold stock
    isplitl [Hb]
    · iapply (sums_leave (F := F) c)
      iapply (show (bigSep Finset.univ fun x => blkRes X W c x ((stateAt 36).blk x) : sProp 𝕄)
          ⊢ bigSep Finset.univ fun x : Fin 3 × Fin 8 => held c (blockM x.1 (row x.1 x.2 c)) from bigSep_mono fun x _ => by
        obtain ⟨n, hn⟩ := end_blk x
        rw [hn]; exact blk_any X W c x n)
      iexact Hb
    isplitl [Hxg]
    · iapply (show (bigSep Finset.univ fun g => ownsTc c (xgM g) fullShare (xrows X g c) : sProp 𝕄) ⊢ bigSep Finset.univ fun g => held c (xgM g) from
        bigSep_mono fun g _ => by
          show (ownsTc c (xgM g) fullShare (xrows X g c) : sProp 𝕄) ⊢ held c (xgM g)
          iintro H; iexists _; iexact H)
      iexact Hxg
    isplitl [Hwb]; · iexists _; iexact Hwb
    iapply (slots_leave (F := F) c)
    iapply (show (bigSep Finset.univ fun x : Fin 3 × Fin 7 => recvPay X W x.1 x.2 c : sProp 𝕄)
        ⊢ bigSep Finset.univ fun x : Fin 3 × Fin 7 => held c (slotM x.1 x.2 (peer x.1 x.2 c)) from bigSep_mono fun x _ => by
      show (recvPay X W x.1 x.2 c : sProp 𝕄) ⊢ held c (slotM x.1 x.2 (peer x.1 x.2 c))
      unfold recvPay
      iintro H; iexists _; iexact H)
    iexact Hpay
  isplitl [Ho]; · iexact Ho
  isplitl [Hx]; · iexact Hx
  isplitl [Hw]; · iexact Hw
  iapply (result_leave X W c)
  iapply (show (bigSep Finset.univ fun g => outRes X W c g ((stateAt 36).out g) : sProp 𝕄) ⊢ bigSep Finset.univ fun g => outRes X W c g true from
    Entails.of_eq (bigSep_congr fun g _ => by rw [end_out]))
  iexact Hout

end Cert.KProof
-- ==== Proof.Deal.lean ====
/-
# What the launch deals

The exchange's cells and duty tokens as they are minted, the invariants opened over every device's semaphores at once, and
the tokens handed to the devices that pay with them.
-/
module

public import proofs.«01_k».proof.Proof.Ends

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x128 .bf16) (W : Dev nD → Vec F S128x1024 .bf16)

/-- A copy's semaphore on either side. -/
abbrev Side : Type := Fin 2 × Fin 3 × Fin 7

theorem ownSemFacts : Pipeline.OwnSemFacts cfg0.spec osem := by decide +kernel

theorem osem_injective : Function.Injective osem := ownSemFacts.inj

theorem cellAt_injective : Function.Injective cellAt := by
  rintro ⟨c, k⟩ ⟨c', k'⟩ h
  have hc : c = c' := by
    rcases k with _ | ⟨b, g, i⟩ <;> rcases k' with _ | ⟨b', g', i'⟩ <;> exact congrArg (fun s : GSem nD τ sig => s.1.1) h
  subst hc
  rcases k with _ | k <;> rcases k' with _ | k'
  · rfl
  · exact absurd (congrArg Prod.snd h) (fun h' => by cases h')
  · exact absurd (congrArg Prod.snd h) (fun h' => by cases h')
  · rw [osem_injective (show osem k = osem k' from congrArg Prod.snd h)]

def theCells : Finset (GSem nD τ sig) := Finset.univ.map ⟨cellAt, cellAt_injective⟩

/-- A device's duties, as minted: its barrier's three, one of each of its copies' cells. -/
def tokOf : Dev nD × (Fin 3 ⊕ Side) → GSem nD τ sig × ℕ × Fin 3
  | (c, .inl d) => (barCell c, 0, d)
  | (c, .inr (b, g, i)) => (xCell b g i c, 0, 0)

theorem tokOf_injective : Function.Injective tokOf := by
  rintro ⟨c, k⟩ ⟨c', k'⟩ h
  have hc : c = c' := by
    rcases k with _ | ⟨b, g, i⟩ <;> rcases k' with _ | ⟨b', g', i'⟩ <;> exact congrArg (fun s : GSem nD τ sig × ℕ × Fin 3 => s.1.1.1) h
  subst hc
  rcases k with d | k <;> rcases k' with d' | k'
  · rw [show d = d' from congrArg (fun s : GSem nD τ sig × ℕ × Fin 3 => s.2.2) h]
  · exact absurd (congrArg (fun s : GSem nD τ sig × ℕ × Fin 3 => s.1.2) h) (fun h' => by cases h')
  · exact absurd (congrArg (fun s : GSem nD τ sig × ℕ × Fin 3 => s.1.2) h) (fun h' => by cases h')
  · rw [osem_injective (show osem k = osem k' from congrArg (fun s : GSem nD τ sig × ℕ × Fin 3 => s.1.2) h)]

def theToks : Finset (GSem nD τ sig × ℕ × Fin 3) := Finset.univ.map ⟨tokOf, tokOf_injective⟩

/-- The launch's element: the pipeline's cells, the exchange's. -/
def u₀ : UU := (initOf (Pipeline.cells cfgs cellOf_inj) (Pipeline.launchToks cfgs cellOf_inj), initOf theCells theToks)

/-- The duties of a device's own cells. -/
def toks (c : Dev nD) : sProp 𝕄 :=
  iprop((bigSep Finset.univ fun d : Fin 3 => dutyTok ER (barCell c) 0 d)
    ∗ bigSep Finset.univ fun b : Fin 2 => bigSep Finset.univ fun x : Fin 3 × Fin 7 => dutyTok ER (xCell b x.1 x.2 c) 0 0)

/-- A family over a device's cells: the barrier's member beside the copies'. -/
theorem bigSep_cells (Φ : Option Side → sProp 𝕄) : bigSep Finset.univ Φ = iprop(Φ none ∗ bigSep Finset.univ fun k => Φ (some k)) := by
  rw [bigSep_univ_split none, show (Finset.univ : Finset (Option Side)).erase none = Finset.univ.map ⟨some, Option.some_injective _⟩ from by
    ext x
    cases x with
    | none => simp
    | some y => simp, bigSep_map]
  rfl

/-- What the launch element deals a device. -/
def G (c : Dev nD) : sProp 𝕄 :=
  iprop((bigSep Finset.univ fun k : Option Side => roundState ER (xRd X W) (cellAt (c, k)) 0)
    ∗ (bigSep Finset.univ fun k : Option Side => atPos ER (cellAt (c, k)) 0 ∅ 0)
    ∗ (bigSep Finset.univ fun k : Option Side => reached ER (cellAt (c, k)) 0) ∗ toks c)

theorem fund : BI.own (ER (initOf theCells theToks)) ⊢ (|==> bigSep Finset.univ (G X W) : sProp 𝕄) := by
  have hX (Φ : GSem nD τ sig → sProp 𝕄) : bigSep theCells Φ = bigSep Finset.univ fun c : Dev nD => bigSep Finset.univ fun k : Option Side => Φ (cellAt (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    refine bigSep_congr fun c _ => ?_
    unfold toks
    rw [bigSep_univ_sum, ← bigSep_univ_prod (fun k : Side => (dutyTok ER (xCell k.1 k.2.1 k.2.2 c) 0 0 : sProp 𝕄))]
    rfl
  iintro HX
  imod (Rounds.fund ER (xRd X W) theCells theToks) $$ HX with ⟨Hst, Hr, Hat, Htok⟩
  imodintro
  ihave Hst' := (Entails.of_eq (hX fun g => roundState ER (xRd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The barrier semaphore is the launch's only unscoped one. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems_cells (c : Dev nD) :
    iprop(Pipeline.ownSems0 (Ix := Unit) (Name := ℕ) (U := UU) (Lvl := ℕ) (Val := Elt F) (τ := τ) osem c ∗ unscopedSems0 c)
      ⊢ (bigSep Finset.univ fun k : Option Side => semVal (cellAt (c, k)) 0 : sProp 𝕄) := by
  rw [unscopedSems0_eq, bigSep_cells]
  iintro ⟨HS, HB⟩
  isplitl [HB]; · iexact HB
  iapply (show Pipeline.ownSems0 (Ix := Unit) (Name := ℕ) (U := UU) (Lvl := ℕ) (Val := Elt F) (τ := τ) osem c
    ⊢ (bigSep Finset.univ fun k : Side => semVal (cellAt (c, some k)) 0 : sProp 𝕄) from Entails.refl _)
  iexact HS

/-- The invariants of a device's cells. -/
theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : Option Side => iprop(∃ κ : ℕ, cellInv ER (xRd X W) κ (cellAt (c, k))))
          ∗ (bigSep Finset.univ fun k : Option Side => atPos ER (cellAt (c, k)) 0 ∅ 0)
          ∗ (bigSep Finset.univ fun k : Option Side => reached ER (cellAt (c, k)) 0) ∗ toks c) := by
  unfold G
  iintro ⟨Hos, Hus, Hst, Hat, Hr, Htok⟩
  ihave Hv := (sems_cells (F := F) c) $$ [Hos Hus]
  · isplitl [Hos] <;> iassumption
  imod (show iprop((bigSep Finset.univ fun k : Option Side => semVal (cellAt (c, k)) 0) ∗ bigSep Finset.univ fun k : Option Side => roundState ER (xRd X W) (cellAt (c, k)) 0)
      ⊢ (|={Set.univ}=> bigSep Finset.univ fun k => iprop(∃ κ : ℕ, cellInv ER (xRd X W) κ (cellAt (c, k))) : sProp 𝕄) from by
        rw [← bigSep_sep']
        exact (bigSep_mono fun k _ => (Rounds.body_intro ER (xRd X W) (cellAt (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- The records before the levels are known. -/
def records₀ : sProp 𝕄 :=
  iprop((bigSep Finset.univ fun x : CI => iprop(∃ κ : ℕ, cellInv ER (xRd X W) κ (cellAt x)))
    ∗ bigSep Finset.univ fun x : CI => reached ER (cellAt x) 0)

instance records₀_persistent : BI.Persistent (records₀ X W) := by unfold records₀; infer_instance

/-- The duties a device pays, and its positions. -/
def mine (c : Dev nD) : sProp 𝕄 :=
  iprop((bigSep Finset.univ fun k : Option Side => atPos ER (cellAt (c, k)) 0 ∅ 0)
    ∗ (bigSep Finset.univ fun d : Fin 3 => dutyTok ER (barCell (peer d 0 c)) 0 d)
    ∗ (bigSep Finset.univ fun x : Fin 3 × Fin 7 => dutyTok ER (xCell 0 x.1 x.2 c) 0 0)
    ∗ bigSep Finset.univ fun x : Fin 3 × Fin 7 => dutyTok ER (xCell 1 x.1 x.2 (peer x.1 x.2 c)) 0 0)

def G' (c : Dev nD) : sProp 𝕄 := iprop(records₀ X W ∗ mine c)

/-- A family over devices and indices, every index taken at the device across. -/
theorem bigSep_across {I : Type} [Fintype I] [DecidableEq I] (p : I → Dev nD → Dev nD) (hp : ∀ x c, p x (p x c) = c) (Φ : I → Dev nD → sProp 𝕄) :
    (bigSep Finset.univ fun c : Dev nD => bigSep Finset.univ fun x : I => Φ x c)
      = bigSep Finset.univ fun c : Dev nD => bigSep Finset.univ fun x : I => Φ x (p x c) := by
  rw [Pipeline.bigSep_univ_comm, Pipeline.bigSep_univ_comm (fun c x => Φ x (p x c))]
  exact bigSep_congr fun x _ => bigSep_univ_equiv ⟨p x, p x, hp x, hp x⟩ (Φ x)

theorem toks_around : (bigSep Finset.univ fun c : Dev nD => (toks c : sProp 𝕄))
    ⊢ iprop((bigSep Finset.univ fun c : Dev nD => bigSep Finset.univ fun d : Fin 3 => dutyTok ER (barCell (peer d 0 c)) 0 d)
      ∗ (bigSep Finset.univ fun c : Dev nD => bigSep Finset.univ fun x : Fin 3 × Fin 7 => dutyTok ER (xCell 0 x.1 x.2 c) 0 0)
      ∗ bigSep Finset.univ fun c : Dev nD => bigSep Finset.univ fun x : Fin 3 × Fin 7 => dutyTok ER (xCell 1 x.1 x.2 (peer x.1 x.2 c)) 0 0) := by
  unfold toks
  simp only [bigSep_univ_two]
  rw [bigSep_sep', bigSep_sep',
    bigSep_across (fun d c => peer d 0 c) (fun d c => peer_peer d 0 c) (fun (d : Fin 3) c => (dutyTok ER (barCell c) 0 d : sProp 𝕄)),
    bigSep_across (fun x c => peer x.1 x.2 c) (fun x c => peer_peer x.1 x.2 c) (fun (x : Fin 3 × Fin 7) c => (dutyTok ER (xCell 1 x.1 x.2 c) 0 0 : sProp 𝕄))]

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option Side => iprop(∃ κ : ℕ, cellInv ER (xRd X W) κ (cellAt (c, k))))
          ∗ (bigSep Finset.univ fun k : Option Side => atPos ER (cellAt (c, k)) 0 ∅ 0)
          ∗ (bigSep Finset.univ fun k : Option Side => reached ER (cellAt (c, k)) 0) ∗ toks c) : sProp 𝕄)
      ⊢ bigSep Finset.univ (G' X W) := by
  rw [bigSep_sep', bigSep_sep', bigSep_sep', ← bigSep_univ_prod (fun x : CI => iprop(∃ κ : ℕ, cellInv ER (xRd X W) κ (cellAt x))),
    ← bigSep_univ_prod (fun x : CI => (reached ER (cellAt x) 0 : sProp 𝕄))]
  iintro ⟨HI, Hat, #HR, Htok⟩
  ihave HK := (BI.bigSep_exists_pi Finset.univ (fun (x : CI) (κ : ℕ) => (cellInv ER (xRd X W) κ (cellAt x) : sProp 𝕄))) $$ HI
  icases HK with ⟨%K, #HI⟩
  ihave Htk := (toks_around (F := F)) $$ Htok
  icases Htk with ⟨H1, H2, H3⟩
  iapply (bigSep_with (R := records₀ X W) (Φ := mine) fun c _ => Entails.refl (G' X W c))
  isplitr
  · unfold records₀
    isplitl
    · iapply (show (bigSep Finset.univ fun x : CI => (cellInv ER (xRd X W) (K x) (cellAt x) : sProp 𝕄))
        ⊢ bigSep Finset.univ fun x : CI => iprop(∃ κ : ℕ, cellInv ER (xRd X W) κ (cellAt x)) from bigSep_mono fun x _ => by
          show (cellInv ER (xRd X W) (K x) (cellAt x) : sProp 𝕄) ⊢ iprop(∃ κ : ℕ, cellInv ER (xRd X W) κ (cellAt x))
          iintro H; iexists _; iexact H)
      iexact HI
    iexact HR
  · iapply (show _ ⊢ (bigSep Finset.univ fun c : Dev nD => (mine c : sProp 𝕄)) from Entails.of_eq (by
      unfold mine; rw [bigSep_sep', bigSep_sep', bigSep_sep']))
    isplitl [Hat]; · iexact Hat
    isplitl [H1]; · iexact H1
    isplitl [H2]; · iexact H2
    iexact H3

/-- Every device's semaphores at once. -/
theorem glob : (bigSep Finset.univ fun c => iprop(Pipeline.ownSems0 (Ix := Unit) (Name := ℕ) (U := UU) (Lvl := ℕ) (Val := Elt F) (τ := τ) osem c
      ∗ unscopedSems0 c ∗ G X W c) : sProp 𝕄) ⊢ |={Set.univ}=> bigSep Finset.univ (G' X W) :=
  ((bigSep_mono fun c _ => core_alloc X W c).trans (bigSep_fupd _ _)).trans (BI.fupd_mono (regroup X W))

/-! ## The launch credit -/

/-- What a device owes at launch. -/
abbrev O₀ (c : Dev nD) : CellTallies nD τ sig Unit := owed start c

theorem O₀_eq : O₀ = fun c : Dev nD => (∑ x : Fin 3 × Fin 7, tallyAt (xCell 1 x.1 x.2 (peer x.1 x.2 c)) () (N x.1))
    + ∑ d : Fin 3, tallyAt (barCell (peer d 0 c)) () 1 := by
  funext c
  unfold O₀ owed
  congr 1

theorem three_units (c : Dev nD) : (∑ _ : Fin 3, tallyAt (barCell c) () 1 : CellTallies nD τ sig Unit) = tallyAt (barCell c) () 3 := by
  rw [Fin.sum_univ_three, tallyAt_add, tallyAt_add]

theorem creds (c : Dev nD) : (Pipeline.launchCred O₀ c : sProp 𝕄)
    ⊢ iprop(cred (tallyAt (barCell c) () 3) ∗ bigSep Finset.univ fun x : Fin 3 × Fin 7 => cred (tallyAt (xCell 1 x.1 x.2 c) () (N x.1))) := by
  rw [O₀_eq, Pipeline.launchCred_add, Pipeline.launchCred_sum, Pipeline.launchCred_sum, ← three_units, Pipeline.cred_finsetSum]
  iintro ⟨H1, H2⟩
  isplitl [H2]
  · iapply (show (bigSep Finset.univ fun d : Fin 3 => Pipeline.launchCred (fun e : Dev nD => tallyAt (barCell (peer d 0 e)) () 1) c : sProp 𝕄) ⊢ _ from
      bigSep_mono fun d _ => Pipeline.launchCred_tallyAt (.reg barS) (peer d 0) (peer d 0) (peer_peer d 0) (peer_peer d 0) () 1 c)
    iexact H2
  · iapply (show (bigSep Finset.univ fun x : Fin 3 × Fin 7 =>
        Pipeline.launchCred (fun e : Dev nD => tallyAt (xCell 1 x.1 x.2 (peer x.1 x.2 e)) () (N x.1)) c : sProp 𝕄) ⊢ _ from
      bigSep_mono fun x _ => Pipeline.launchCred_tallyAt (.dma (dsem 1 x.1 x.2)) (peer x.1 x.2) (peer x.1 x.2) (peer_peer x.1 x.2) (peer_peer x.1 x.2) () (N x.1) c)
    iexact H1

/-- All a device brings to its body. -/
theorem ghost_intro (c : Dev nD) : iprop(levAts L lv ∗ Pipeline.launchCred O₀ c ∗ G' X W c) ⊢ (Ghost X W c : sProp 𝕄) := by
  unfold G' mine Ghost records₀ records
  rw [bigSep_cells, bigSep_univ_prod (fun k : Side => (atPos ER (cellAt (c, some k)) 0 ∅ 0 : sProp 𝕄)), bigSep_univ_two]
  iintro ⟨#Hlev, Hcr, ⟨#HI, #HR⟩, ⟨Hab, Has, Har⟩, Hd, Hs, Hr⟩
  ihave Hc := (creds (F := F) c) $$ Hcr
  icases Hc with ⟨H3, HN⟩
  isplitr
  · isplitr; · iexact HI
    isplitr; · iexact HR
    iexact Hlev
  isplitl [Hd]; · iexact Hd
  isplitl [Hab H3]
  · unfold meetRes
    isplitl [Hab]; · iexact Hab
    iexact H3
  unfold kit
  iapply (show iprop((bigSep Finset.univ fun x : Fin 3 × Fin 7 => (dutyTok ER (xCell 0 x.1 x.2 c) 0 0 : sProp 𝕄))
      ∗ (bigSep Finset.univ fun x : Fin 3 × Fin 7 => dutyTok ER (xCell 1 x.1 x.2 (peer x.1 x.2 c)) 0 0)
      ∗ (bigSep Finset.univ fun x : Fin 3 × Fin 7 => atPos ER (xCell 0 x.1 x.2 c) 0 ∅ 0)
      ∗ (bigSep Finset.univ fun x : Fin 3 × Fin 7 => atPos ER (xCell 1 x.1 x.2 c) 0 ∅ 0)
      ∗ bigSep Finset.univ fun x : Fin 3 × Fin 7 => cred (tallyAt (xCell 1 x.1 x.2 c) () (N x.1))) ⊢ _ from by
    rw [← bigSep_sep', ← bigSep_sep', ← bigSep_sep', ← bigSep_sep'])
  isplitl [Hs]; · iexact Hs
  isplitl [Hr]; · iexact Hr
  isplitl [Has]; · iexact Has
  isplitl [Har]; · iexact Har
  iexact HN

end Cert.KProof
-- ==== Proof.Launch.lean ====
/-
# The run

The body under the pipeline's windows, and the launch: every execution ends, with the result on every device and every
counter at zero.
-/
module

public import proofs.«01_k».proof.Proof.Deal
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The block of `x` on a device, as its window stages it. -/
def xIn (c : Dev nD) : Vec F S1024x128 .bf16 := (win0_0.blk (0 : Fin 1)).view.read (Elt F) (m ((c : Thread nD τ).loc main_arg0))
/-- The block of `w` on a device. -/
def wIn (c : Dev nD) : Vec F S128x1024 .bf16 := (win0_1.blk (0 : Fin 1)).view.read (Elt F) (m ((c : Thread nD τ).loc main_arg1))

/-- The pipeline's proof data. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => outV (xIn m) (wIn m) c
  Φ t := match t with
    | ⟨0, _⟩ => iprop(Ghost (xIn m) (wIn m) c ∗ stock c)
    | ⟨_ + 1, _⟩ => iprop(semVal (barCell c) 0
        ∗ Pipeline.ownSems0 (Ix := Unit) (Name := ℕ) (U := UU) (Lvl := ℕ) (Val := Elt F) (τ := τ) osem c ∗ stock c)
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 3) ∗ Φ (1 : Fin 3) ∗ Φ (2 : Fin 3)) := bigSep_W0 Φ

theorem fetched_0 (t : Fin cfg0.N) : (cfg0.win (0 : Fin 3)).fetch t = true := by rw [fin_N t]; rfl
theorem fetched_1 (t : Fin cfg0.N) : (cfg0.win (1 : Fin 3)).fetch t = true := by rw [fin_N t]; rfl

/-! ## The body under the windows -/

set_option maxRecDepth 100000 in
def bodyPre (c : Dev nD) : sProp 𝕄 :=
  iprop((Ghost (xIn m) (wIn m) c ∗ stock c) ∗ (dats m ρ 0 c).owesAt () t₀.castSucc
    ∗ (∃ d, ownsTc c xM fullShare ((dats m ρ 0 c).before (0 : Fin 3) t₀ d))
    ∗ (∃ d, ownsTc c wM fullShare ((dats m ρ 0 c).before (1 : Fin 3) t₀ d))
    ∗ (∃ d, ownsTc c oM fullShare ((dats m ρ 0 c).before (2 : Fin 3) t₀ d)))

def bodyPost (c : Dev nD) : sProp 𝕄 :=
  iprop((semVal (barCell c) 0 ∗ Pipeline.ownSems0 (Ix := Unit) (Name := ℕ) (U := UU) (Lvl := ℕ) (Val := Elt F) (τ := τ) osem c ∗ stock c)
    ∗ (dats m ρ 0 c).owesAt () t₀.succ
    ∗ ownsTc c xM fullShare (xIn m c) ∗ ownsTc c wM fullShare (wIn m c) ∗ ownsTc c oM fullShare (outV (xIn m) (wIn m) c))

set_option maxRecDepth 100000 in
theorem body_sound (c : Dev nD) : bodyPre m ρ c ⊢ run c (onArgs (cc0_body (F := F))) fun _ => bodyPost m ρ c := by
  refine BIBase.Entails.trans ?_ (body_run (X := xIn m) (W := wIn m) (Q := fun _ => bodyPost m ρ c) ?_)
  · unfold bodyPre Dat.owesAt Pipeline.owesWithin
    iintro ⟨⟨HG, Hs⟩, ⟨%Ws, %hWs, Ho⟩, ⟨%d0, Hx⟩, ⟨%d1, Hw⟩, ⟨%d2, Hout⟩⟩
    rw [show (dats m ρ 0 c).before (0 : Fin 3) t₀ d0 = xIn m c from by unfold Dat.before; rw [if_pos (fetched_0 t₀)]; rfl,
      show (dats m ρ 0 c).before (1 : Fin 3) t₀ d1 = wIn m c from by unfold Dat.before; rw [if_pos (fetched_1 t₀)]; rfl]
    iapply (enter (xIn m) (wIn m) c Ws)
    isplitl [HG]; · iexact HG
    isplitl [Hs]; · iexact Hs
    isplitl [Ho]; · iexact Ho
    isplitl [Hx]; · iexact Hx
    isplitl [Hw]; · iexact Hw
    iexists _; iexact Hout
  · refine (leave (xIn m) (wIn m) c).trans ?_
    unfold bodyPost Dat.owesAt Pipeline.owesWithin
    rw [show (dats m ρ 0 c).owed t₀.succ = 0 from rfl]
    iintro ⟨%Ws, Hb, Hs, Hst, Ho, Hx, Hw, Hout⟩
    isplitl [Hb Hs Hst]
    · isplitl [Hb]; · iexact Hb
      isplitl [Hs] <;> iassumption
    isplitl [Ho]
    · iexists Ws
      isplitr; · ipureintro; exact fun _ _ => Or.inl trivial
      iexact Ho
    isplitl [Hx]; · iexact Hx
    isplitl [Hw]; · iexact Hw
    iexact Hout

set_option maxRecDepth 100000 in
theorem body_obligation (c : Dev nD) : BodyObligation (dats (F := F) m ρ 0 c) (defs₀ (F := F)) 𝒱₀ () Set.univ := fun t => by
  rw [fin_N t]
  rw [bigSep_W, bigSep_W]
  exact body_sound m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m) (wIn m) c)
      ⊢ |={Set.univ}=> iprop(Ghost (xIn m) (wIn m) c ∗ emp) := by
  iintro ⟨-, Hlev, Hcr, -, HG⟩
  imodintro
  isplitl
  · iapply (ghost_intro (xIn m) (wIn m) c)
    isplitl [Hlev]; · iexact Hlev
    isplitl [Hcr] <;> iassumption
  · iempintro

theorem phi0_intro (c : Dev nD) :
    iprop(Ghost (xIn m) (wIn m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(Ghost (xIn m) (wIn m) c ∗ stock c) from rfl, stock_eq]
  iintro ⟨Hg, -, Hr⟩
  isplitl [Hg] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(semVal (barCell c) 0
        ∗ Pipeline.ownSems0 (Ix := Unit) (Name := ℕ) (U := UU) (Lvl := ℕ) (Val := Elt F) (τ := τ) osem c ∗ stock c) from rfl, stock_eq, unscopedSems0_eq]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait start c _ 0 (by fin_cases w <;> fin_cases s <;> rfl) (fun _ _ => by omega) (fun _ _ => by omega)
    · show (levAts L lv : sProp 𝕄) ⊢ MayWait (c : Thread nD τ) _ () 0
      rw [MayWait_zero]; iintro -; iempintro

/-- What the arrays hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters: every weakly fair execution on the eight devices ends, the
    arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xIn m) (wIn m)) (G' := G' (xIn m) (wIn m)) (u₀ := u₀)
    (hu₀ := by
      unfold u₀
      iintro Hu
      ihave H := (ownU_pair _ _) $$ Hu
      icases H with ⟨HP, HX⟩
      imod (fund (xIn m) (wIn m)) $$ HX with HG
      imodintro
      isplitl [HP] <;> iassumption)
    (hglob := glob (xIn m) (wIn m))
    (hA := fun _ _ => rfl) (hpf := fun _ k => k.elim0)
    (X := Ghost (xIn m) (wIn m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held. -/
theorem finalA_x (c : Dev nD) : finalA m ρ c (0 : Fin 3) = m (win0_0.arr.view.loc (c : Thread nD τ)) :=
  (dats (F := F) m ρ 0 c).arrAt_in (0 : Fin 3) rfl _
theorem finalA_w (c : Dev nD) : finalA m ρ c (1 : Fin 3) = m (win0_1.arr.view.loc (c : Thread nD τ)) :=
  (dats (F := F) m ρ 0 c).arrAt_in (1 : Fin 3) rfl _

end Cert.KProof
-- ==== Proof.Outcome.lean ====
/-
# What the arrays hold after the run

Each window is a whole array at one grid point, so the inputs are staged as they are and the result array ends at the
staged result.
-/
module

public import proofs.«01_k».proof.Proof.Launch
public import Idealize.ShloMosaic.Lib.Pipeline.Value

@[expose] public section

noncomputable section

namespace Cert.KProof

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

theorem index_0 (t : Fin cfg0.N) : (fun a => win0_0.index t a * main_arg0.ty.shape.size a) = fun _ => 0 := by
  rw [fin_N t]; exact funext fun a => by fin_cases a <;> decide
theorem index_1 (t : Fin cfg0.N) : (fun a => win0_1.index t a * main_arg1.ty.shape.size a) = fun _ => 0 := by
  rw [fin_N t]; exact funext fun a => by fin_cases a <;> decide
theorem index_2 (t : Fin cfg0.N) : (fun a => win0_2.index t a * main_v1.ty.shape.size a) = fun _ => 0 := by
  rw [fin_N t]; exact funext fun a => by fin_cases a <;> decide

/-- The staged blocks are the whole arguments. -/
theorem xIn_eq (c : Dev nD) : xIn m c = m ((c : Thread nD τ).loc main_arg0) :=
  Memref.read_access_unit_zero (Elt F) main_arg0 (index_0 t₀) (fun a => by rw [congrFun (index_0 t₀) a]; simp) _
theorem wIn_eq (c : Dev nD) : wIn m c = m ((c : Thread nD τ).loc main_arg1) :=
  Memref.read_access_unit_zero (Elt F) main_arg1 (index_1 t₀) (fun a => by rw [congrFun (index_1 t₀) a]; simp) _

/-- The result array ends at the result. -/
theorem finalA_out (c : Dev nD) : finalA m ρ c (2 : Fin 3) = outV (xIn m) (wIn m) c :=
  (dats m ρ 0 c).arrAt_eq_of_cover (2 : Fin 3) (outV (xIn m) (wIn m) c)
    (fun t _ => (Memref.read_access_unit_zero (Elt F) main_v1 (index_2 t) (fun a => by rw [congrFun (index_2 t) a]; simp) _).symm)
    fun i => ⟨t₀, by rfl, by
      show i ∈ ((View.whole main_v1).slice (win0_2.rect t₀)).set
      rw [View.set_slice_whole]
      exact View.mem_set_unit_zero (index_2 t₀) _ i⟩

/-- The run, read: the result array at the result, the arguments unchanged, every counter at zero. -/
theorem run_value : θ_run defs (onTc (τ := τ) (main (F := F))) ⟨m, fun _ => 0, ρ⟩ fun r =>
    (∀ c : Dev nD, r.2.mem ((c : Thread nD τ).loc main_v1)
        = outV (fun d => m ((d : Thread nD τ).loc main_arg0)) (fun d => m ((d : Thread nD τ).loc main_arg1)) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 := by
  have hX : (fun d : Dev nD => m ((d : Thread nD τ).loc main_arg0)) = xIn m := funext fun d => (xIn_eq m d).symm
  have hW : (fun d : Dev nD => m ((d : Thread nD τ).loc main_arg1)) = wIn m := funext fun d => (wIn_eq m d).symm
  rw [hX, hW]
  exact (θ_run defs _ _).mono (fun _ h => ⟨fun c => ⟨(h.1 c (2 : Fin 3)).trans (finalA_out m ρ c),
    (h.1 c (0 : Fin 3)).trans (finalA_x m ρ c), (h.1 c (1 : Fin 3)).trans (finalA_w m ρ c)⟩, h.2⟩) (run_main m ρ)

end Cert.KProof
-- ==== Proof.Total.lean ====
/-
# The result over the extended reals

Read over the extended reals, the three exchanges add up the eight devices' products for the device's own rows, and that
is the device's block of rows of the product of the whole matrices.
-/
module

public import proofs.«01_k».proof.Proof.Values
public import proofs.«01_k».proof.Proof.Gen.ReferenceIdeal.Run
public import Idealize.ShloMosaic.Lib.Layout
public import Idealize.ShloMosaic.Lib.Pointwise.Sums
public import Idealize.ShloMosaic.Lib.MatmulPlain
public import Idealize.ShloMosaic.Lib.StackMember
public import Idealize.ShloMosaic.PureOps.Ideal.Laws

@[expose] public section

noncomputable section

namespace Cert.KProof

open Cert.KernelIdeal Cert.KernelIdeal.Gen
open Idealize.ShloMosaic

/-! ## Sums and products, read at an index -/

theorem addB_apply {s : Shape} (a b : Vec Ideal s .bf16) (y : s.Idx) : (addB a b y : EReal) = (a y : EReal) + (b y : EReal) := rfl
theorem addW_apply {s : Shape} (a b : Vec Ideal s .bf16) (y : s.Idx) : (addW a b y : EReal) = (a y : EReal) + (b y : EReal) := rfl

theorem at2_eq {R C : ℕ} (i : Fin R) (j : Fin C) : (at2 i j : (mat R C).Idx) = ValueIdx.ix2 i j := by
  funext a; match a with | ⟨0, _⟩ => rfl | ⟨1, _⟩ => rfl

/-- A product stored in the narrow type, at an index. -/
theorem product_apply {M K N : ℕ} (d : DotDims (mat M K) (mat K N) (mat M N)) (hd : d = DotDims.plain M K N)
    (A : Vec Ideal (mat M K) .bf16) (B : Vec Ideal (mat K N) .bf16) (r : Fin M) (k : Fin N) :
    (matmul (F := Ideal) (φ₁ := .bf16) (φ₂ := .bf16) d none A B (constant (mat M N) .f32 0x00000000#32) (at2 r k) : EReal)
      = ∑ q : Fin K, (A (at2 r q) : EReal) * (B (at2 q k) : EReal) := by
  subst hd
  simp only [at2_eq]
  show FloatOps.matmul (F := Ideal) _ _ _ _ _ _ = _
  rw [Ideal.matmul_plain_apply]
  show Ideal.ofBits .f32 0x00000000#32 + _ = _
  rw [Ideal.ofBits_zero_f32, zero_add]

/-- A first product at an index. -/
theorem half_apply : (g : Fin 3) → (A : Vec Ideal (mat 512 128) .bf16) → (B : Vec Ideal (mat 128 (width g)) .bf16) → (r : Fin 512) →
    (k : Fin (width g)) → (half g A B (at2 r k) : EReal) = ∑ q : Fin 128, (A (at2 r q) : EReal) * (B (at2 q k) : EReal)
  | 0, A, B, r, k => by
    show (k0_pay27 A B (at2 r k) : EReal) = _
    unfold k0_pay27
    rw [shapeCast_self]
    exact product_apply (N := 384) dot_S512x128_S128x384_S512x384_1_0_0_1_n_n rfl A B r k
  | 1, A, B, r, k => by
    show (k0_pay28 A B (at2 r k) : EReal) = _
    unfold k0_pay28
    rw [shapeCast_self]
    exact product_apply (N := 384) dot_S512x128_S128x384_S512x384_1_0_0_1_n_n rfl A B r k
  | 2, A, B, r, k => by
    show (k0_pay29 A B (at2 r k) : EReal) = _
    unfold k0_pay29
    rw [shapeCast_self]
    exact product_apply (N := 256) dot_S512x128_S128x256_S512x256_1_0_0_1_n_n rfl A B r k

/-! ## The exchanges add up the devices' products -/

variable (X : Dev nD → Vec Ideal S1024x128 .bf16) (W : Dev nD → Vec Ideal S128x1024 .bf16)

/-- What device `c` contributes to row `r` of device `d`'s block and column `k` of the result. -/
def term (d : Dev nD) (r : Fin 128) (k : Fin 1024) (c : Dev nD) : EReal :=
  ∑ q : Fin 128, (X c (at2 ⟨128 * d.val + r.val, by have : d.val < 8 := d.isLt; omega⟩ q) : EReal) * (W c (at2 q k) : EReal)

/-- The column of the result a group's column is. -/
def column (g : Fin 3) (k : Fin (width g)) : Fin 1024 := ⟨384 * g.val + k.val, by have := width_le g; omega⟩

/-- A first product is a contribution. -/
theorem V_zero (g : Fin 3) (j : Fin 8) (c : Dev nD) (r : Fin 128) (k : Fin (width g)) :
    (V X W g 0 j c (at2 r k) : EReal) = term X W (devOf g (row g j c)) r (column g k) c := by
  show (half (F := Ideal) g _ _ (at2 _ k) : EReal) = _
  rw [half_apply]
  unfold term
  refine Finset.sum_congr rfl fun q _ => ?_
  congr 1
  show (X c (at2 _ q) : EReal) = X c (at2 _ q)
  congr 2
  apply Fin.ext
  have hr := r.isLt
  have hb := (row g j c).isLt
  have e : Fin.ofNat 8 ((512 * (Fin.ofNat 2 ((row g j c).val / 4)).val + (128 * ((row g j c).val % 4) + r.val)) / 128) = row g j c := by
    apply Fin.ext
    show (512 * ((row g j c).val / 4 % 2) + (128 * ((row g j c).val % 4) + r.val)) / 128 % 8 = (row g j c).val
    omega
  show 128 * (devOf g (Fin.ofNat 8 ((512 * (Fin.ofNat 2 ((row g j c).val / 4)).val + (128 * ((row g j c).val % 4) + r.val)) / 128))).val
    + (512 * ((row g j c).val / 4 % 2) + (128 * ((row g j c).val % 4) + r.val)) % 128 = _
  rw [e]
  show _ = 128 * (devOf g (row g j c)).val + r.val
  omega

/-- The device `b` steps across the cube from `c`. -/
def step (g : Fin 3) (c : Dev nD) (b : Fin 8) : Dev nD := devOf g (code g c ^^^ b)

theorem step_bijective (g : Fin 3) (c : Dev nD) : Function.Bijective (step g c) := by
  revert g c; decide +kernel

/-- Every contribution to a device's block is for the rows of that device. -/
theorem role_of_step (g : Fin 3) (c : Dev nD) (b : Fin 8) : devOf g (row g (7 - b) (step g c b)) = c := by
  revert g c b; decide +kernel

theorem across_step (g : Fin 3) (c : Dev nD) (b : Fin 8) (n : Fin 3) :
    across g n.val (step g c b) = step g c (b ^^^ Fin.ofNat 8 (4 / 2 ^ n.val)) := by
  revert g c b n; decide +kernel

theorem step_zero (g : Fin 3) (c : Dev nD) : step g c 0 = c := by revert g c; decide

/-- One exchange, in steps across the cube. -/
theorem V_step (g : Fin 3) (n : Fin 3) (c : Dev nD) (b b' : Fin 8) (hb : b ^^^ Fin.ofNat 8 (4 / 2 ^ n.val) = b')
    (hb' : 7 - b - Fin.ofNat 8 (4 / 2 ^ n.val) = 7 - b') (y : (mat 128 (width g)).Idx) :
    (V X W g (n.val + 1) (7 - b) (step g c b) y : EReal)
      = (V X W g n.val (7 - b) (step g c b) y : EReal) + (V X W g n.val (7 - b') (step g c b') y : EReal) := by
  show (V X W g n.val (7 - b) (step g c b) y : EReal)
    + (V X W g n.val (7 - b - Fin.ofNat 8 (4 / 2 ^ n.val)) (across g n.val (step g c b)) y : EReal) = _
  rw [across_step, hb, hb']

/-- The result at an index: the contributions of all eight devices. -/
theorem outG_apply (g : Fin 3) (c : Dev nD) (r : Fin 128) (k : Fin (width g)) :
    (outG X W g c (at2 r k) : EReal) = ∑ d : Dev nD, term X W c r (column g k) d := by
  have leaf : ∀ b : Fin 8, (V X W g 0 (7 - b) (step g c b) (at2 r k) : EReal) = term X W c r (column g k) (step g c b) := fun b => by
    rw [V_zero, role_of_step]
  have one : ∀ b b' : Fin 8, b ^^^ 4 = b' → 7 - b - 4 = 7 - b' → (V X W g 1 (7 - b) (step g c b) (at2 r k) : EReal)
      = term X W c r (column g k) (step g c b) + term X W c r (column g k) (step g c b') := fun b b' h h' =>
    (V_step X W g 0 c b b' h h' _).trans (congrArg₂ (· + ·) (leaf b) (leaf b'))
  have two : ∀ b b' : Fin 8, b ^^^ 2 = b' → 7 - b - 2 = 7 - b' → (V X W g 2 (7 - b) (step g c b) (at2 r k) : EReal)
      = (V X W g 1 (7 - b) (step g c b) (at2 r k) : EReal) + (V X W g 1 (7 - b') (step g c b') (at2 r k) : EReal) := fun b b' h h' =>
    V_step X W g 1 c b b' h h' _
  have three : (outG X W g c (at2 r k) : EReal)
      = (V X W g 2 (7 - 0) (step g c 0) (at2 r k) : EReal) + (V X W g 2 (7 - 1) (step g c 1) (at2 r k) : EReal) := by
    have h := across_step g c 0 2
    rw [step_zero] at h
    rw [step_zero, show step g c 1 = across g 2 c from h.symm]
    rfl
  rw [← (step_bijective g c).sum_comp (term X W c r (column g k)), Fin.sum_univ_eight, three, two 0 2 rfl rfl, two 1 3 rfl rfl,
    one 0 4 rfl rfl, one 2 6 rfl rfl, one 1 5 rfl rfl, one 3 7 rfl rfl]
  ac_rfl

/-- The result at an index of the whole result. -/
theorem outV_apply (c : Dev nD) (y : (mat 128 1024).Idx) : (outV X W c y : EReal) = ∑ d : Dev nD, term X W c (y 0) (y 1) d := by
  show (outG X W _ c (at2 _ _) : EReal) = _
  refine (outG_apply X W _ c _ _).trans ?_
  refine Finset.sum_congr rfl fun d _ => congrArg (term X W c _ · d) ?_
  apply Fin.ext
  show 384 * min 2 ((y 1).val / 384) + ((y 1).val - 384 * min 2 ((y 1).val / 384)) = (y 1).val
  omega

/-! ## The block of the product of the whole matrices -/

/-- The product of the whole matrices, as the reference computes it. -/
def whole (A B : Vec Ideal (mat 1024 1024) .bf16) : Vec Ideal (mat 1024 1024) .f32 :=
  Host.dotGeneral (F := Ideal) (φ₁ := .f32) (φ₂ := .f32) Cert.ReferenceIdeal.dot_S1024x1024_S1024x1024_S1024x1024_1_0_0_1_n_n none
    (extf (F := Ideal) (φ := .bf16) .f32 A Cert.ReferenceIdeal.Facts₀.bitsLt_bf16_f32) (extf (F := Ideal) (φ := .bf16) .f32 B Cert.ReferenceIdeal.Facts₀.bitsLt_bf16_f32)

theorem whole_apply (A B : Vec Ideal (mat 1024 1024) .bf16) (i k : Fin 1024) :
    (whole A B (at2 i k) : EReal) = ∑ q : Fin 1024, (A (at2 i q) : EReal) * (B (at2 q k) : EReal) := by
  unfold whole
  rw [show Cert.ReferenceIdeal.dot_S1024x1024_S1024x1024_S1024x1024_1_0_0_1_n_n = DotDims.plain 1024 1024 1024 from rfl]
  simp only [at2_eq]
  exact StackMember.dotGeneral_plain_apply none _ _ i k

theorem sum_cut (f : Fin 1024 → EReal) :
    ∑ q : Fin 1024, f q = ∑ d : Dev nD, ∑ t : Fin 128, f ⟨d.val * 128 + t.val, by have : d.val < 8 := d.isLt; omega⟩ :=
  Fin.sum_univ_tiles 8 128 (by decide) f

/-- With the inputs cut over the devices, every device's result is its block of rows of the product. -/
theorem outV_block (A B : Vec Ideal (mat 1024 1024) .bf16)
    (hX : ∀ c : Dev nD, X c = Layout.block ⟨2, ![1024, 128]⟩ ⟨2, ![1024, 1024]⟩ 1 8 c A)
    (hW : ∀ c : Dev nD, W c = Layout.block ⟨2, ![128, 1024]⟩ ⟨2, ![1024, 1024]⟩ 0 8 c B) (c : Dev nD) :
    outV X W c = Layout.block ⟨2, ![128, 1024]⟩ ⟨2, ![1024, 1024]⟩ 0 8 c (whole A B) := by
  funext y
  have hy : (Layout.Tiles.idx (S := ⟨2, ![128, 1024]⟩) (T := ⟨2, ![1024, 1024]⟩) (a := 0) (k := 8) (by decide) c y)
      = at2 ⟨c.val * 128 + (y 0).val, by have : c.val < 8 := c.isLt; have : (y 0).val < 128 := (y 0).isLt; omega⟩ (y 1) := by
    funext a; match a with | ⟨0, _⟩ => rfl | ⟨1, _⟩ => rfl
  rw [Layout.block_apply, hy]
  refine (outV_apply X W c y).trans ?_
  refine Eq.trans ?_ ((whole_apply A B _ _).trans (sum_cut _)).symm
  refine Finset.sum_congr rfl fun d _ => ?_
  unfold term
  refine Finset.sum_congr rfl fun q _ => ?_
  rw [hX d, hW d]
  congr 1
  · show (A _ : EReal) = A _
    congr 1
    funext a
    match a with
    | ⟨0, _⟩ => exact Fin.ext (show 128 * c.val + (y 0).val = c.val * 128 + (y 0).val by omega)
    | ⟨1, _⟩ => rfl
  · show (B _ : EReal) = B _
    congr 1
    funext a
    match a with
    | ⟨0, _⟩ => rfl
    | ⟨1, _⟩ => rfl

end Cert.KProof
-- ==== Proof.lean ====
/-
# The certificate

The run of the kernel holds for any float values, so it gives the frame of the kernel over the machine's words and over
the extended reals; over the extended reals the result on every device is its block of rows of the product of the whole
matrices, which is what the reference computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Outcome
public import proofs.«01_k».proof.Proof.Total
public import Idealize.ShloMosaic.Lib.Quiescent

@[expose] public section

noncomputable section

namespace Cert.Proof

open Idealize.ShloMosaic Idealize.ShloMosaic.TcCoe Idealize.SL.Sem

/-- For any float values, the kernel runs, leaves its arguments unchanged and every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KProof.run_value m ρ)

attribute [local instance] Cert.Kernel.Gen.facts

set_option maxRecDepth 100000 in
/-- The two printed kernels have one body; -/
theorem body_same : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rfl

set_option maxRecDepth 100000 in
/-- so they are one program. -/
theorem program_same : Cert.Kernel.defs (F := Bits) = Cert.KernelIdeal.defs (F := Bits) :=
  congrArg (Pipeline.defs (Cert.Kernel.pcfgs (F := Bits))) body_same

set_option maxRecDepth 100000 in
/-- The kernel over the machine's words. -/
theorem frame_kernel : Cert.quiescent_Kernel (hKernel := Cert.Kernel.Gen.facts) := by
  intro m ρ _
  rw [program_same]
  exact frame (F := Bits) m ρ

/-- The kernel over the extended reals. -/
theorem frame_kernel_ideal : Cert.quiescent_KernelIdeal (hKernelIdeal := Cert.KernelIdeal.Gen.facts) := fun m ρ _ =>
  frame (F := Ideal) m ρ

/-- The reference runs, leaves its arguments unchanged and has no counter. -/
theorem frame_reference : Cert.quiescent_ReferenceIdeal (hReferenceIdeal := Cert.ReferenceIdeal.Gen.facts) := fun m ρ _ =>
  (θ_run (Cert.ReferenceIdeal.defs (F := Ideal)) _ _).mono (fun _ h => ⟨fun c => (h c).2, sem_eq_zero_of_no_sems rfl _⟩)
    (Cert.ReferenceIdeal.Value.run (F := Ideal) m ρ)

/-- Every device's result is its block of rows of the product. -/
theorem value : Cert.algebraic_KernelIdeal_ReferenceIdeal (hKernelIdeal := Cert.KernelIdeal.Gen.facts)
    (hReferenceIdeal := Cert.ReferenceIdeal.Gen.facts) := fun m ρ m' ρ' _ hm =>
  ⟨Cert.KProof.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨(h.1 c).1.trans (Cert.KProof.outV_block _ _ _ _ (fun d => (hm d).1) (fun d => (hm d).2) c), (h.1 c).2⟩)
      (Cert.KProof.run_value (F := Ideal) m ρ),
    (θ_run (Cert.ReferenceIdeal.defs (F := Ideal)) _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_kernel_ideal,
    frame_reference, trivial, value⟩

end Cert.Proof

end
